-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)) (v2 : (c : Dev Cert.Kernel2Ideal.nD) → Buf (Elt Ideal) ((c.tc : Thread Cert.Kernel2Ideal.nD Cert.Kernel2Ideal.τ).loc Cert.Kernel2Ideal.main_v19_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_v19_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v198) = v0 c
          ∧ r.2.mem ((c.tc : Thread Cert.Reference2Ideal.nD Cert.Reference2Ideal.τ).loc Cert.Reference2Ideal.main_v200) = v1 c
          ∧ r.2.mem ((c.tc : Thread Cert.Reference2Ideal.nD Cert.Reference2Ideal.τ).loc Cert.Reference2Ideal.main_v201) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_v26) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Pre_finite.lean ====
abbrev S16x2048x512 : Shape := ⟨3, ![16, 2048, 512]⟩
abbrev S16x2048x128 : Shape := ⟨3, ![16, 2048, 128]⟩
abbrev S1x8 : Shape := ⟨2, ![1, 8]⟩
abbrev S_ : Shape := ⟨0, ![]⟩

class Facts : Prop where
  bitsLt_bf16_f32 : FTy.bits .bf16 < FTy.bits .f32
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x2048x128 : S_.BroadcastsInDim S16x2048x128 (![] : Fin 0 → Fin S16x2048x128.rank)
  reducesTo_S16x2048x128_S_d0_1_2 : S16x2048x128.ReducesTo [0, 1, 2] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S16x2048x512 .bf16) (main_arg1 : FVec F S16x2048x128 .bf16) (main_arg2 : FVec F S16x2048x128 .bf16) (main_arg3 : FVec F S1x8 .f32) : IVec S_ 1 :=
  let main_v0 : FVec F S16x2048x512 .f32 := (extf .f32 · bitsLt_bf16_f32) main_arg0
  let main_v1 : FVec F S16x2048x512 .f32 := Host.absf main_v0
  let main_cst : FVec F S_ .f32 := constant S_ .f32 0x7F800000#32
  let main_v2 : FVec F S16x2048x512 .f32 := broadcastInDim S16x2048x512 ![] bcast_S_S16x2048x512 main_cst
  let main_v3 : IVec S16x2048x512 1 := cmpf .olt main_v1 main_v2
  let main_c : IVec S_ 1 := constantI S_ 1 1#1
  let main_v4 : IVec S_ 1 := (fun x v => Host.reduce IntOp.andi x v reducesTo_S16x2048x512_S_d0_1_2 h_S_) main_v3 main_c
  let main_v5 : FVec F S16x2048x128 .f32 := (extf .f32 · bitsLt_bf16_f32) main_arg1
  let main_v6 : FVec F S16x2048x128 .f32 := Host.absf main_v5
  let main_cst_0 : FVec F S_ .f32 := constant S_ .f32 0x7F800000#32
  let main_v7 : FVec F S16x2048x128 .f32 := broadcastInDim S16x2048x128 ![] bcast_S_S16x2048x128 main_cst_0
  let main_v8 : IVec S16x2048x128 1 := cmpf .olt main_v6 main_v7
  let main_c_1 : IVec S_ 1 := constantI S_ 1 1#1
  let main_v9 : IVec S_ 1 := (fun x v => Host.reduce IntOp.andi x v reducesTo_S16x2048x128_S_d0_1_2 h_S_) main_v8 main_c_1
  let main_v10 : IVec S_ 1 := andi main_v4 main_v9
  let main_v11 : FVec F S1x8 .f32 := Host.absf main_arg3
  let main_cst_2 : FVec F S_ .f32 := constant S_ .f32 0x7F800000#32
  let main_v12 : FVec F S1x8 .f32 := broadcastInDim S1x8 ![] bcast_S_S1x8 main_cst_2
  let main_v13 : IVec S1x8 1 := cmpf .olt main_v11 main_v12
  let main_c_3 : IVec S_ 1 := constantI S_ 1 1#1
  let main_v14 : IVec S_ 1 := (fun x v => Host.reduce IntOp.andi x v reducesTo_S1x8_S_d0_1 h_S_) main_v13 main_c_3
  let main_v15 : IVec S_ 1 := andi main_v10 main_v14
  main_v15
-- ==== Kernel.lean ====
abbrev S16x2048x512 : Shape := ⟨3, ![16, 2048, 512]⟩
abbrev S16x2048x128 : Shape := ⟨3, ![16, 2048, 128]⟩
abbrev S1x8 : Shape := ⟨2, ![1, 8]⟩
abbrev S8 : Shape := ⟨1, ![8]⟩
abbrev S1x128x512 : Shape := ⟨3, ![1, 128, 512]⟩
abbrev S1x128x128 : Shape := ⟨3, ![1, 128, 128]⟩
abbrev S512x384 : Shape := ⟨2, ![512, 384]⟩
abbrev S512x1 : Shape := ⟨2, ![512, 1]⟩
abbrev S128x512 : Shape := ⟨2, ![128, 512]⟩
abbrev S128x128 : Shape := ⟨2, ![128, 128]⟩
abbrev S128x64 : Shape := ⟨2, ![128, 64]⟩
abbrev S384x64 : Shape := ⟨2, ![384, 64]⟩
abbrev S512x64 : Shape := ⟨2, ![512, 64]⟩
abbrev S1 : Shape := ⟨1, ![1]⟩
abbrev S512 : Shape := ⟨1, ![512]⟩

abbrev nBuf : Space → Nat
  | .hbm => 6
  | .vmem => 16
  | .smem => 1
  | _ => 0

abbrev bufTy : (tb : Table) → Fin (tcTables nBuf tb) → BufTy
  | .hbm, ⟨0, _⟩ => ⟨S16x2048x512, .bf16⟩
  | .hbm, ⟨1, _⟩ => ⟨S16x2048x128, .bf16⟩
  | .hbm, ⟨2, _⟩ => ⟨S16x2048x128, .bf16⟩
  | .hbm, ⟨3, _⟩ => ⟨S1x8, .f32⟩
  | .hbm, ⟨4, _⟩ => ⟨S8, .f32⟩
  | .hbm, ⟨5, _⟩ => ⟨S16x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x512, .bf16⟩
  | .local _ .vmem, ⟨15, _⟩ => ⟨S1x128x512, .bf16⟩
  | .local _ .smem, ⟨0, _⟩ => ⟨S8, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x512 : Shape := ⟨3, ![16, 2048, 512]⟩
abbrev S16x2048x128 : Shape := ⟨3, ![16, 2048, 128]⟩
abbrev S1x8 : Shape := ⟨2, ![1, 8]⟩
abbrev S8 : Shape := ⟨1, ![8]⟩
abbrev S16x16x128x2x4x64 : Shape := ⟨6, ![16, 16, 128, 2, 4, 64]⟩
abbrev S16x2048x2x64 : Shape := ⟨4, ![16, 2048, 2, 64]⟩
abbrev S_ : Shape := ⟨0, ![]⟩
abbrev S16x2304x2x64 : Shape := ⟨4, ![16, 2304, 2, 64]⟩
abbrev S16x18x128x2x64 : Shape := ⟨5, ![16, 18, 128, 2, 64]⟩
abbrev S16x16x128x2x64 : Shape := ⟨5, ![16, 16, 128, 2, 64]⟩
abbrev S16x16x384x2x64 : Shape := ⟨5, ![16, 16, 384, 2, 64]⟩
abbrev S16x16x2x384x128x4 : Shape := ⟨6, ![16, 16, 2, 384, 128, 4]⟩
abbrev S16x16x2x4x128x384 : Shape := ⟨6, ![16, 16, 2, 4, 128, 384]⟩
abbrev S128 : Shape := ⟨1, ![128]⟩
abbrev S384 : Shape := ⟨1, ![384]⟩
abbrev S128x1 : Shape := ⟨2, ![128, 1]⟩
abbrev S1x384 : Shape := ⟨2, ![1, 384]⟩
abbrev S128x384 : Shape := ⟨2, ![128, 384]⟩
abbrev S16 : Shape := ⟨1, ![16]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S1 : Shape := ⟨1, ![1]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x1x2x4x128x384 : Shape := ⟨6, ![1, 1, 2, 4, 128, 384]⟩
abbrev S1x16x1x1x128x384 : Shape := ⟨6, ![1, 16, 1, 1, 128, 384]⟩
abbrev S16x16x2x4x128x1 : Shape := ⟨6, ![16, 16, 2, 4, 128, 1]⟩
abbrev S16x16x2x4x128x385 : Shape := ⟨6, ![16, 16, 2, 4, 128, 385]⟩
abbrev S16x16x2x4x128 : Shape := ⟨5, ![16, 16, 2, 4, 128]⟩
abbrev S16x16x2x64x4x128 : Shape := ⟨6, ![16, 16, 2, 64, 4, 128]⟩

abbrev nBuf : Space → Nat
  | .hbm => 125
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x128, .bf16⟩
  | .hbm, ⟨2, _⟩ => ⟨S16x2048x128, .bf16⟩
  | .hbm, ⟨3, _⟩ => ⟨S1x8, .f32⟩
  | .hbm, ⟨4, _⟩ => ⟨S16x2048x512, .f32⟩
  | .hbm, ⟨5, _⟩ => ⟨S16x2048x128, .f32⟩
  | .hbm, ⟨6, _⟩ => ⟨S16x2048x128, .f32⟩
  | .hbm, ⟨7, _⟩ => ⟨S8, .f32⟩
  | .hbm, ⟨8, _⟩ => ⟨S16x16x128x2x4x64, .f32⟩
  | .hbm, ⟨9, _⟩ => ⟨S16x2048x2x64, .f32⟩
  | .hbm, ⟨10, _⟩ => ⟨S_, .i32⟩
  | .hbm, ⟨11, _⟩ => ⟨S_, .f32⟩
  | .hbm, ⟨12, _⟩ => ⟨S16x2304x2x64, .f32⟩
  | .hbm, ⟨13, _⟩ => ⟨S16x18x128x2x64, .f32⟩
  | .hbm, ⟨14, _⟩ => ⟨S16x16x128x2x64, .f32⟩
  | .hbm, ⟨15, _⟩ => ⟨S16x16x128x2x64, .f32⟩
  | .hbm, ⟨16, _⟩ => ⟨S16x16x128x2x64, .f32⟩
  | .hbm, ⟨17, _⟩ => ⟨S16x16x384x2x64, .f32⟩
  | .hbm, ⟨18, _⟩ => ⟨S16x2048x2x64, .f32⟩
  | .hbm, ⟨19, _⟩ => ⟨S_, .i32⟩
  | .hbm, ⟨20, _⟩ => ⟨S_, .f32⟩
  | .hbm, ⟨21, _⟩ => ⟨S16x2304x2x64, .f32⟩
  | .hbm, ⟨22, _⟩ => ⟨S16x18x128x2x64, .f32⟩
  | .hbm, ⟨23, _⟩ => ⟨S16x16x128x2x64, .f32⟩
  | .hbm, ⟨24, _⟩ => ⟨S16x16x128x2x64, .f32⟩
  | .hbm, ⟨25, _⟩ => ⟨S16x16x128x2x64, .f32⟩
  | .hbm, ⟨26, _⟩ => ⟨S16x16x384x2x64, .f32⟩
  | .hbm, ⟨27, _⟩ => ⟨S16x16x2x384x128x4, .f32⟩
  | .hbm, ⟨28, _⟩ => ⟨S16x16x2x4x128x384, .f32⟩
  | .hbm, ⟨29, _⟩ => ⟨S_, .f32⟩
  | .hbm, ⟨30, _⟩ => ⟨S16x16x2x4x128x384, .f32⟩
  | .hbm, ⟨31, _⟩ => ⟨S16x16x2x4x128x384, .f32⟩
  | .hbm, ⟨32, _⟩ => ⟨S128, .i32⟩
  | .hbm, ⟨33, _⟩ => ⟨S384, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S1x384, .i32⟩
  | .hbm, ⟨39, _⟩ => ⟨S128x384, .i32⟩
  | .hbm, ⟨40, _⟩ => ⟨S128x384, .i32⟩
  | .hbm, ⟨41, _⟩ => ⟨S128x384, .i32⟩
  | .hbm, ⟨42, _⟩ => ⟨S128x384, .i32⟩
  | .hbm, ⟨43, _⟩ => ⟨S16, .i32⟩
  | .hbm, ⟨44, _⟩ => ⟨S16x1, .i32⟩
  | .hbm, ⟨45, _⟩ => ⟨S_, .i32⟩
  | .hbm, ⟨46, _⟩ => ⟨S16x1, .i32⟩
  | .hbm, ⟨47, _⟩ => ⟨S16x1, .i32⟩
  | .hbm, ⟨48, _⟩ => ⟨S_, .i32⟩
  | .hbm, ⟨49, _⟩ => ⟨S16x1, .i32⟩
  | .hbm, ⟨50, _⟩ => ⟨S16x1, .i32⟩
  | .hbm, ⟨51, _⟩ => ⟨S1x384, .i32⟩
  | .hbm, ⟨52, _⟩ => ⟨S16x384, .i32⟩
  | .hbm, ⟨53, _⟩ => ⟨S16x384, .i32⟩
  | .hbm, ⟨54, _⟩ => ⟨S16x384, .i32⟩
  | .hbm, ⟨55, _⟩ => ⟨S_, .i32⟩
  | .hbm, ⟨56, _⟩ => ⟨S128x384, .i32⟩
  | .hbm, ⟨57, _⟩ => ⟨S128x384, .i1⟩
  | .hbm, ⟨58, _⟩ => ⟨S1x128x384, .i1⟩
  | .hbm, ⟨59, _⟩ => ⟨S_, .i32⟩
  | .hbm, ⟨60, _⟩ => ⟨S16x384, .i32⟩
  | .hbm, ⟨61, _⟩ => ⟨S16x384, .i1⟩
  | .hbm, ⟨62, _⟩ => ⟨S_, .i32⟩
  | .hbm, ⟨63, _⟩ => ⟨S16x384, .i32⟩
  | .hbm, ⟨64, _⟩ => ⟨S16x384, .i1⟩
  | .hbm, ⟨65, _⟩ => ⟨S16x384, .i1⟩
  | .hbm, ⟨66, _⟩ => ⟨S16x1x384, .i1⟩
  | .hbm, ⟨67, _⟩ => ⟨S16x128x384, .i1⟩
  | .hbm, ⟨68, _⟩ => ⟨S16x128x384, .i1⟩
  | .hbm, ⟨69, _⟩ => ⟨S16x128x384, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1, .f32⟩
  | .hbm, ⟨79, _⟩ => ⟨S1, .f32⟩
  | .hbm, ⟨80, _⟩ => ⟨S1, .f32⟩
  | .hbm, ⟨81, _⟩ => ⟨S1, .f32⟩
  | .hbm, ⟨82, _⟩ => ⟨S1, .f32⟩
  | .hbm, ⟨83, _⟩ => ⟨S1, .f32⟩
  | .hbm, ⟨84, _⟩ => ⟨S1, .f32⟩
  | .hbm, ⟨85, _⟩ => ⟨S1, .f32⟩
  | .hbm, ⟨86, _⟩ => ⟨S8, .f32⟩
  | .hbm, ⟨87, _⟩ => ⟨S2x4, .f32⟩
  | .hbm, ⟨88, _⟩ => ⟨S2x4x1x1, .f32⟩
  | .hbm, ⟨89, _⟩ => ⟨S128x384, .f32⟩
  | .hbm, ⟨90, _⟩ => ⟨S1x1x128x384, .f32⟩
  | .hbm, ⟨91, _⟩ => ⟨S2x4x128x384, .f32⟩
  | .hbm, ⟨92, _⟩ => ⟨S2x4x128x384, .f32⟩
  | .hbm, ⟨93, _⟩ => ⟨S2x4x128x384, .f32⟩
  | .hbm, ⟨94, _⟩ => ⟨S1x1x2x4x128x384, .f32⟩
  | .hbm, ⟨95, _⟩ => ⟨S16x16x2x4x128x384, .f32⟩
  | .hbm, ⟨96, _⟩ => ⟨S16x16x2x4x128x384, .f32⟩
  | .hbm, ⟨97, _⟩ => ⟨S1x16x1x1x128x384, .i1⟩
  | .hbm, ⟨98, _⟩ => ⟨S_, .f32⟩
  | .hbm, ⟨99, _⟩ => ⟨S_, .f32⟩
  | .hbm, ⟨100, _⟩ => ⟨S16x16x2x4x128x384, .i1⟩
  | .hbm, ⟨101, _⟩ => ⟨S16x16x2x4x128x384, .f32⟩
  | .hbm, ⟨102, _⟩ => ⟨S16x16x2x4x128x384, .f32⟩
  | .hbm, ⟨103, _⟩ => ⟨S2x4x1x1, .f32⟩
  | .hbm, ⟨104, _⟩ => ⟨S16x16x2x4x128x1, .f32⟩
  | .hbm, ⟨105, _⟩ => ⟨S16x16x2x4x128x385, .f32⟩
  | .hbm, ⟨106, _⟩ => ⟨S_, .f32⟩
  | .hbm, ⟨107, _⟩ => ⟨S16x16x2x4x128, .f32⟩
  | .hbm, ⟨108, _⟩ => ⟨S_, .f32⟩
  | .hbm, ⟨109, _⟩ => ⟨S16x16x2x4x128, .f32⟩
  | .hbm, ⟨110, _⟩ => ⟨S16x16x2x4x128, .f32⟩
  | .hbm, ⟨111, _⟩ => ⟨S16x16x2x4x128x1, .f32⟩
  | .hbm, ⟨112, _⟩ => ⟨S16x16x2x4x128x385, .f32⟩
  | .hbm, ⟨113, _⟩ => ⟨S16x16x2x4x128x385, .f32⟩
  | .hbm, ⟨114, _⟩ => ⟨S16x16x2x4x128x385, .f32⟩
  | .hbm, ⟨115, _⟩ => ⟨S_, .f32⟩
  | .hbm, ⟨116, _⟩ => ⟨S16x16x2x4x128, .f32⟩
  | .hbm, ⟨117, _⟩ => ⟨S16x16x2x4x128x1, .f32⟩
  | .hbm, ⟨118, _⟩ => ⟨S16x16x2x4x128x385, .f32⟩
  | .hbm, ⟨119, _⟩ => ⟨S16x16x2x4x128x385, .f32⟩
  | .hbm, ⟨120, _⟩ => ⟨S16x16x2x4x128x384, .f32⟩
  | .hbm, ⟨121, _⟩ => ⟨S16x16x2x64x4x128, .f32⟩
  | .hbm, ⟨122, _⟩ => ⟨S16x16x128x2x4x64, .f32⟩
  | .hbm, ⟨123, _⟩ => ⟨S16x2048x512, .f32⟩
  | .hbm, ⟨124, _⟩ => ⟨S16x2048x512, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_2 : Ref sig .tc := ⟨.hbm, 45, rfl⟩
abbrev main_v35 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_cst_8 : Ref sig .tc := ⟨.hbm, 71, rfl⟩
abbrev main_cst_9 : Ref sig .tc := ⟨.hbm, 72, rfl⟩
abbrev main_cst_10 : Ref sig .tc := ⟨.hbm, 73, rfl⟩
abbrev main_cst_11 : Ref sig .tc := ⟨.hbm, 74, rfl⟩
abbrev main_cst_12 : Ref sig .tc := ⟨.hbm, 75, rfl⟩
abbrev main_cst_13 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_18 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S1x1024 : Shape := ⟨2, ![1, 1024]⟩
abbrev S1x1024x2048 : Shape := ⟨3, ![1, 1024, 2048]⟩
abbrev S1x2048 : Shape := ⟨2, ![1, 2048]⟩
abbrev S1x4x128x128 : Shape := ⟨4, ![1, 4, 128, 128]⟩
abbrev S1x512 : Shape := ⟨2, ![1, 512]⟩
abbrev S1x2x512x1024 : Shape := ⟨4, ![1, 2, 512, 1024]⟩
abbrev S1x1024x1024 : Shape := ⟨3, ![1, 1024, 1024]⟩
abbrev S32768x1024 : Shape := ⟨2, ![32768, 1024]⟩
abbrev S32768x512 : Shape := ⟨2, ![32768, 512]⟩
abbrev S1024 : Shape := ⟨1, ![1024]⟩
abbrev S1024x2048 : Shape := ⟨2, ![1024, 2048]⟩
abbrev S2048 : Shape := ⟨1, ![2048]⟩
abbrev S4x128x128 : Shape := ⟨3, ![4, 128, 128]⟩
abbrev S512 : Shape := ⟨1, ![512]⟩
abbrev S2x512x1024 : Shape := ⟨3, ![2, 512, 1024]⟩
abbrev S1024x1024 : Shape := ⟨2, ![1024, 1024]⟩
abbrev S32768x8x128 : Shape := ⟨3, ![32768, 8, 128]⟩
abbrev S256x1024 : Shape := ⟨2, ![256, 1024]⟩
abbrev S256x512 : Shape := ⟨2, ![256, 512]⟩
abbrev S8x512 : Shape := ⟨2, ![8, 512]⟩
abbrev S256x8x128 : Shape := ⟨3, ![256, 8, 128]⟩
abbrev S256 : Shape := ⟨1, ![256]⟩
abbrev S256x1 : Shape := ⟨2, ![256, 1]⟩
abbrev S272x512 : Shape := ⟨2, ![272, 512]⟩
abbrev S272x128 : Shape := ⟨2, ![272, 128]⟩
abbrev S256x128 : Shape := ⟨2, ![256, 128]⟩
abbrev S1x128x128 : Shape := ⟨3, ![1, 128, 128]⟩
abbrev S128x128 : Shape := ⟨2, ![128, 128]⟩
abbrev S256x2048 : Shape := ⟨2, ![256, 2048]⟩
abbrev S1x512x1024 : Shape := ⟨3, ![1, 512, 1024]⟩
abbrev S512x1024 : Shape := ⟨2, ![512, 1024]⟩
abbrev S256x1x128 : Shape := ⟨3, ![256, 1, 128]⟩

abbrev nBuf : Space → Nat
  | .hbm => 33
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .bf16⟩
  | .hbm, ⟨3, _⟩ => ⟨S1x1024, .f32⟩
  | .hbm, ⟨4, _⟩ => ⟨S1x1024x2048, .f32⟩
  | .hbm, ⟨5, _⟩ => ⟨S1x2048, .f32⟩
  | .hbm, ⟨6, _⟩ => ⟨S1x4x128x128, .f32⟩
  | .hbm, ⟨7, _⟩ => ⟨S1x512, .f32⟩
  | .hbm, ⟨8, _⟩ => ⟨S1x2x512x1024, .f32⟩
  | .hbm, ⟨9, _⟩ => ⟨S1x1024x1024, .f32⟩
  | .hbm, ⟨10, _⟩ => ⟨S1x1024, .f32⟩
  | .hbm, ⟨11, _⟩ => ⟨S32768x1024, .f32⟩
  | .hbm, ⟨12, _⟩ => ⟨S32768x512, .f32⟩
  | .hbm, ⟨13, _⟩ => ⟨S32768x512, .bf16⟩
  | .hbm, ⟨14, _⟩ => ⟨S1024, .f32⟩
  | .hbm, ⟨15, _⟩ => ⟨S1x1024, .f32⟩
  | .hbm, ⟨16, _⟩ => ⟨S1024x2048, .f32⟩
  | .hbm, ⟨17, _⟩ => ⟨S1024x2048, .bf16⟩
  | .hbm, ⟨18, _⟩ => ⟨S2048, .f32⟩
  | .hbm, ⟨19, _⟩ => ⟨S1x2048, .f32⟩
  | .hbm, ⟨20, _⟩ => ⟨S4x128x128, .f32⟩
  | .hbm, ⟨21, _⟩ => ⟨S4x128x128, .bf16⟩
  | .hbm, ⟨22, _⟩ => ⟨S512, .f32⟩
  | .hbm, ⟨23, _⟩ => ⟨S1x512, .f32⟩
  | .hbm, ⟨24, _⟩ => ⟨S2x512x1024, .f32⟩
  | .hbm, ⟨25, _⟩ => ⟨S2x512x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S32768x1024, .f32⟩
  | .hbm, ⟨31, _⟩ => ⟨S32768x1024, .bf16⟩
  | .hbm, ⟨32, _⟩ => ⟨S32768x8x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S256x512, .bf16⟩
  | .local _ .vmem, ⟨9, _⟩ => ⟨S256x512, .bf16⟩
  | .local _ .vmem, ⟨10, _⟩ => ⟨S1x1024, .f32⟩
  | .local _ .vmem, ⟨11, _⟩ => ⟨S1024x2048, .bf16⟩
  | .local _ .vmem, ⟨12, _⟩ => ⟨S1x2048, .f32⟩
  | .local _ .vmem, ⟨13, _⟩ => ⟨S4x128x128, .bf16⟩
  | .local _ .vmem, ⟨14, _⟩ => ⟨S1x512, .f32⟩
  | .local _ .vmem, ⟨15, _⟩ => ⟨S2x512x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x8x128, .f32⟩
  | .local _ .vmem, ⟨23, _⟩ => ⟨S256x8x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16x2048x1024 : Shape := ⟨3, ![16, 2048, 1024]⟩
abbrev S16x2048x512 : Shape := ⟨3, ![16, 2048, 512]⟩
abbrev S1x1024 : Shape := ⟨2, ![1, 1024]⟩
abbrev S1x1024x2048 : Shape := ⟨3, ![1, 1024, 2048]⟩
abbrev S1x2048 : Shape := ⟨2, ![1, 2048]⟩
abbrev S1x4x128x128 : Shape := ⟨4, ![1, 4, 128, 128]⟩
abbrev S1x512 : Shape := ⟨2, ![1, 512]⟩
abbrev S1x2x512x1024 : Shape := ⟨4, ![1, 2, 512, 1024]⟩
abbrev S1x1024x1024 : Shape := ⟨3, ![1, 1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S4x128x128 : Shape := ⟨3, ![4, 128, 128]⟩
abbrev S512 : Shape := ⟨1, ![512]⟩
abbrev S16x2048x4x128 : Shape := ⟨4, ![16, 2048, 4, 128]⟩
abbrev S2048 : Shape := ⟨1, ![2048]⟩
abbrev S16x2048x1x128 : Shape := ⟨4, ![16, 2048, 1, 128]⟩
abbrev S16x2048x128 : Shape := ⟨3, ![16, 2048, 128]⟩
abbrev S16x2050x128 : Shape := ⟨3, ![16, 2050, 128]⟩
abbrev S2048x1 : Shape := ⟨2, ![2048, 1]⟩
abbrev S1x2048x1 : Shape := ⟨3, ![1, 2048, 1]⟩
abbrev S16x2052x128 : Shape := ⟨3, ![16, 2052, 128]⟩
abbrev S16x2056x128 : Shape := ⟨3, ![16, 2056, 128]⟩
abbrev S16x2064x128 : Shape := ⟨3, ![16, 2064, 128]⟩
abbrev S4x128x16x2048 : Shape := ⟨4, ![4, 128, 16, 2048]⟩
abbrev S1x1x512 : Shape := ⟨3, ![1, 1, 512]⟩
abbrev S1024x2048 : Shape := ⟨2, ![1024, 2048]⟩
abbrev S16x2048x2048 : Shape := ⟨3, ![16, 2048, 2048]⟩
abbrev S1x1x2048 : Shape := ⟨3, ![1, 1, 2048]⟩
abbrev S16x2048x2x1024 : Shape := ⟨4, ![16, 2048, 2, 1024]⟩
abbrev S16x2048x1x1024 : Shape := ⟨4, ![16, 2048, 1, 1024]⟩
abbrev S1x1x512x1024 : Shape := ⟨4, ![1, 1, 512, 1024]⟩
abbrev S512x1024 : Shape := ⟨2, ![512, 1024]⟩
abbrev S1024x1024 : Shape := ⟨2, ![1024, 1024]⟩
abbrev S32768x1024 : Shape := ⟨2, ![32768, 1024]⟩
abbrev S32768x8x128 : Shape := ⟨3, ![32768, 8, 128]⟩

abbrev nBuf : Space → Nat
  | .hbm => 297
  | .vmem => 0
  | .smem => 0
  | _ => 0

abbrev hbmTy0_0 (i : Nat) : BufTy := match i % 128 with
  | 0 => ⟨S16x2048x1024, .f32⟩
  | 1 => ⟨S16x2048x512, .f32⟩
  | 2 => ⟨S16x2048x512, .bf16⟩
  | 3 => ⟨S1x1024, .f32⟩
  | 4 => ⟨S1x1024x2048, .f32⟩
  | 5 => ⟨S1x2048, .f32⟩
  | 6 => ⟨S1x4x128x128, .f32⟩
  | 7 => ⟨S1x512, .f32⟩
  | 8 => ⟨S1x2x512x1024, .f32⟩
  | 9 => ⟨S1x1024x1024, .f32⟩
  | 10 => ⟨S1x1024, .f32⟩
  | 11 => ⟨S1024, .f32⟩
  | 12 => ⟨S16x2048x1024, .f32⟩
  | 13 => ⟨S_, .f32⟩
  | 14 => ⟨S16x2048, .f32⟩
  | 15 => ⟨S16x2048x1, .f32⟩
  | 16 => ⟨S_, .f32⟩
  | 17 => ⟨S16x2048x1, .f32⟩
  | 18 => ⟨S16x2048x1, .f32⟩
  | 19 => ⟨S_, .f32⟩
  | 20 => ⟨S16x2048x1, .f32⟩
  | 21 => ⟨S16x2048x1, .f32⟩
  | 22 => ⟨S16x2048x1, .f32⟩
  | 23 => ⟨S16x2048x1024, .f32⟩
  | 24 => ⟨S16x2048x1024, .f32⟩
  | 25 => ⟨S1x1x1024, .f32⟩
  | 26 => ⟨S16x2048x1024, .f32⟩
  | 27 => ⟨S16x2048x1024, .f32⟩
  | 28 => ⟨S4x128x128, .f32⟩
  | 29 => ⟨S512, .f32⟩
  | 30 => ⟨S16x2048x4x128, .f32⟩
  | 31 => ⟨S2048, .i32⟩
  | 32 => ⟨S_, .i32⟩
  | 33 => ⟨S2048, .i32⟩
  | 34 => ⟨S2048, .i32⟩
  | 35 => ⟨S_, .i32⟩
  | 36 => ⟨S_, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S_, .i32⟩
  | 47 => ⟨S2048, .i32⟩
  | 48 => ⟨S2048, .i32⟩
  | 49 => ⟨S_, .i32⟩
  | 50 => ⟨S_, .i32⟩
  | 51 => ⟨S_, .i32⟩
  | 52 => ⟨S2048, .i32⟩
  | 53 => ⟨S2048, .i32⟩
  | 54 => ⟨S_, .i32⟩
  | 55 => ⟨S2048, .i32⟩
  | 56 => ⟨S2048, .i32⟩
  | 57 => ⟨S16x2048x1x128, .f32⟩
  | 58 => ⟨S16x2048x128, .f32⟩
  | 59 => ⟨S_, .i32⟩
  | 60 => ⟨S_, .f32⟩
  | 61 => ⟨S16x2050x128, .f32⟩
  | 62 => ⟨S16x2048x128, .f32⟩
  | 63 => ⟨S16x2048x128, .f32⟩
  | 64 => ⟨S16x2048x128, .f32⟩
  | 65 => ⟨S2048, .i32⟩
  | 66 => ⟨S2048, .f32⟩
  | 67 => ⟨S2048x1, .f32⟩
  | 68 => ⟨S1x2048x1, .f32⟩
  | 69 => ⟨S16x2048x128, .f32⟩
  | 70 => ⟨S16x2048x128, .f32⟩
  | 71 => ⟨S_, .i32⟩
  | 72 => ⟨S2048, .i32⟩
  | 73 => ⟨S2048, .i32⟩
  | 74 => ⟨S_, .i32⟩
  | 75 => ⟨S_, .i32⟩
  | 76 => ⟨S_, .i32⟩
  | 77 => ⟨S2048, .i32⟩
  | 78 => ⟨S2048, .i32⟩
  | 79 => ⟨S_, .i32⟩
  | 80 => ⟨S2048, .i32⟩
  | 81 => ⟨S2048, .i32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S_, .i32⟩
  | 89 => ⟨S_, .i32⟩
  | 90 => ⟨S_, .i32⟩
  | 91 => ⟨S2048, .i32⟩
  | 92 => ⟨S2048, .i32⟩
  | 93 => ⟨S_, .i32⟩
  | 94 => ⟨S2048, .i32⟩
  | 95 => ⟨S2048, .i32⟩
  | 96 => ⟨S16x2048x1x128, .f32⟩
  | 97 => ⟨S16x2048x128, .f32⟩
  | 98 => ⟨S_, .i32⟩
  | 99 => ⟨S_, .f32⟩
  | 100 => ⟨S16x2052x128, .f32⟩
  | 101 => ⟨S16x2048x128, .f32⟩
  | 102 => ⟨S16x2048x128, .f32⟩
  | 103 => ⟨S16x2048x128, .f32⟩
  | 104 => ⟨S16x2048x128, .f32⟩
  | 105 => ⟨S16x2048x128, .f32⟩
  | 106 => ⟨S16x2048x128, .f32⟩
  | 107 => ⟨S16x2048x128, .f32⟩
  | 108 => ⟨S2048, .i32⟩
  | 109 => ⟨S2048, .f32⟩
  | 110 => ⟨S2048x1, .f32⟩
  | 111 => ⟨S1x2048x1, .f32⟩
  | 112 => ⟨S16x2048x128, .f32⟩
  | 113 => ⟨S16x2048x128, .f32⟩
  | 114 => ⟨S_, .i32⟩
  | 115 => ⟨S2048, .i32⟩
  | 116 => ⟨S2048, .i32⟩
  | 117 => ⟨S_, .i32⟩
  | 118 => ⟨S_, .i32⟩
  | 119 => ⟨S_, .i32⟩
  | 120 => ⟨S2048, .i32⟩
  | 121 => ⟨S2048, .i32⟩
  | 122 => ⟨S_, .i32⟩
  | 123 => ⟨S2048, .i32⟩
  | 124 => ⟨S2048, .i32⟩
  | 125 => ⟨S_, .i32⟩
  | 126 => ⟨S2048, .i32⟩
  | 127 => ⟨S2048, .i32⟩
  | _ => ⟨S16x2048x1024, .f32⟩

abbrev hbmTy0_1 (i : Nat) : BufTy := match i % 128 with
  | 0 => ⟨S_, .i32⟩
  | 1 => ⟨S2048, .i32⟩
  | 2 => ⟨S2048, .i32⟩
  | 3 => ⟨S_, .i32⟩
  | 4 => ⟨S_, .i32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S16x2048x1x128, .f32⟩
  | 12 => ⟨S16x2048x128, .f32⟩
  | 13 => ⟨S_, .i32⟩
  | 14 => ⟨S_, .f32⟩
  | 15 => ⟨S16x2056x128, .f32⟩
  | 16 => ⟨S16x2048x128, .f32⟩
  | 17 => ⟨S16x2048x128, .f32⟩
  | 18 => ⟨S16x2048x128, .f32⟩
  | 19 => ⟨S16x2048x128, .f32⟩
  | 20 => ⟨S16x2048x128, .f32⟩
  | 21 => ⟨S16x2048x128, .f32⟩
  | 22 => ⟨S16x2048x128, .f32⟩
  | 23 => ⟨S16x2048x128, .f32⟩
  | 24 => ⟨S16x2048x128, .f32⟩
  | 25 => ⟨S16x2048x128, .f32⟩
  | 26 => ⟨S16x2048x128, .f32⟩
  | 27 => ⟨S16x2048x128, .f32⟩
  | 28 => ⟨S16x2048x128, .f32⟩
  | 29 => ⟨S16x2048x128, .f32⟩
  | 30 => ⟨S16x2048x128, .f32⟩
  | 31 => ⟨S2048, .i32⟩
  | 32 => ⟨S2048, .f32⟩
  | 33 => ⟨S2048x1, .f32⟩
  | 34 => ⟨S1x2048x1, .f32⟩
  | 35 => ⟨S16x2048x128, .f32⟩
  | 36 => ⟨S16x2048x128, .f32⟩
  | 37 => ⟨S_, .i32⟩
  | 38 => ⟨S2048, .i32⟩
  | 39 => ⟨S2048, .i32⟩
  | 40 => ⟨S_, .i32⟩
  | 41 => ⟨S_, .i32⟩
  | 42 => ⟨S_, .i32⟩
  | 43 => ⟨S2048, .i32⟩
  | 44 => ⟨S2048, .i32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S_, .i32⟩
  | 52 => ⟨S2048, .i32⟩
  | 53 => ⟨S2048, .i32⟩
  | 54 => ⟨S_, .i32⟩
  | 55 => ⟨S_, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S16x2048x1x128, .f32⟩
  | 63 => ⟨S16x2048x128, .f32⟩
  | 64 => ⟨S_, .i32⟩
  | 65 => ⟨S_, .f32⟩
  | 66 => ⟨S16x2064x128, .f32⟩
  | 67 => ⟨S16x2048x128, .f32⟩
  | 68 => ⟨S16x2048x128, .f32⟩
  | 69 => ⟨S16x2048x128, .f32⟩
  | 70 => ⟨S16x2048x128, .f32⟩
  | 71 => ⟨S16x2048x128, .f32⟩
  | 72 => ⟨S16x2048x128, .f32⟩
  | 73 => ⟨S16x2048x128, .f32⟩
  | 74 => ⟨S16x2048x128, .f32⟩
  | 75 => ⟨S16x2048x128, .f32⟩
  | 76 => ⟨S16x2048x128, .f32⟩
  | 77 => ⟨S16x2048x128, .f32⟩
  | 78 => ⟨S16x2048x128, .f32⟩
  | 79 => ⟨S16x2048x128, .f32⟩
  | 80 => ⟨S16x2048x128, .f32⟩
  | 81 => ⟨S16x2048x128, .f32⟩
  | 82 => ⟨S16x2048x128, .f32⟩
  | 83 => ⟨S16x2048x128, .f32⟩
  | 84 => ⟨S16x2048x128, .f32⟩
  | 85 => ⟨S16x2048x128, .f32⟩
  | 86 => ⟨S16x2048x128, .f32⟩
  | 87 => ⟨S16x2048x128, .f32⟩
  | 88 => ⟨S16x2048x128, .f32⟩
  | 89 => ⟨S16x2048x128, .f32⟩
  | 90 => ⟨S16x2048x128, .f32⟩
  | 91 => ⟨S16x2048x128, .f32⟩
  | 92 => ⟨S16x2048x128, .f32⟩
  | 93 => ⟨S16x2048x128, .f32⟩
  | 94 => ⟨S16x2048x128, .f32⟩
  | 95 => ⟨S16x2048x128, .f32⟩
  | 96 => ⟨S16x2048x128, .f32⟩
  | 97 => ⟨S16x2048x128, .f32⟩
  | 98 => ⟨S2048, .i32⟩
  | 99 => ⟨S2048, .f32⟩
  | 100 => ⟨S2048x1, .f32⟩
  | 101 => ⟨S1x2048x1, .f32⟩
  | 102 => ⟨S16x2048x128, .f32⟩
  | 103 => ⟨S16x2048x128, .f32⟩
  | 104 => ⟨S16x2048x1x128, .f32⟩
  | 105 => ⟨S16x2048x1x128, .f32⟩
  | 106 => ⟨S16x2048x1x128, .f32⟩
  | 107 => ⟨S16x2048x1x128, .f32⟩
  | 108 => ⟨S16x2048x4x128, .f32⟩
  | 109 => ⟨S16x2048x4x128, .f32⟩
  | 110 => ⟨S4x128x16x2048, .f32⟩
  | 111 => ⟨S16x2048x4x128, .f32⟩
  | 112 => ⟨S16x2048x512, .f32⟩
  | 113 => ⟨S1x1x512, .f32⟩
  | 114 => ⟨S16x2048x512, .f32⟩
  | 115 => ⟨S16x2048x512, .f32⟩
  | 116 => ⟨S1024x2048, .f32⟩
  | 117 => ⟨S16x2048x2048, .f32⟩
  | 118 => ⟨S2048, .f32⟩
  | 119 => ⟨S1x1x2048, .f32⟩
  | 120 => ⟨S16x2048x2048, .f32⟩
  | 121 => ⟨S16x2048x2048, .f32⟩
  | 122 => ⟨S16x2048x2048, .f32⟩
  | 123 => ⟨S16x2048x2048, .f32⟩
  | 124 => ⟨S_, .f32⟩
  | 125 => ⟨S16x2048x2048, .f32⟩
  | 126 => ⟨S16x2048x2048, .f32⟩
  | 127 => ⟨S_, .f32⟩
  | _ => ⟨S16x2048x1024, .f32⟩

abbrev hbmTy0_2 (i : Nat) : BufTy := match i % 128 with
  | 0 => ⟨S16x2048x2048, .f32⟩
  | 1 => ⟨S16x2048x2048, .f32⟩
  | 2 => ⟨S16x2048x2x1024, .f32⟩
  | 3 => ⟨S16x2048x1x1024, .f32⟩
  | 4 => ⟨S16x2048x1024, .f32⟩
  | 5 => ⟨S16x2048x512, .f32⟩
  | 6 => ⟨S1x1x512x1024, .f32⟩
  | 7 => ⟨S512x1024, .f32⟩
  | 8 => ⟨S16x2048x1024, .f32⟩
  | 9 => ⟨S16x2048x1024, .f32⟩
  | 10 => ⟨S16x2048x1x1024, .f32⟩
  | 11 => ⟨S16x2048x1024, .f32⟩
  | 12 => ⟨S1x1x512x1024, .f32⟩
  | 13 => ⟨S512x1024, .f32⟩
  | 14 => ⟨S16x2048x1024, .f32⟩
  | 15 => ⟨S16x2048x1024, .f32⟩
  | 16 => ⟨S16x2048x1024, .f32⟩
  | 17 => ⟨S1024x1024, .f32⟩
  | 18 => ⟨S16x2048x1024, .f32⟩
  | 19 => ⟨S16x2048x1024, .f32⟩
  | 20 => ⟨S1024, .f32⟩
  | 21 => ⟨S16x2048x1024, .f32⟩
  | 22 => ⟨S_, .f32⟩
  | 23 => ⟨S16x2048, .f32⟩
  | 24 => ⟨S16x2048x1, .f32⟩
  | 25 => ⟨S_, .f32⟩
  | 26 => ⟨S16x2048x1, .f32⟩
  | 27 => ⟨S16x2048x1, .f32⟩
  | 28 => ⟨S_, .f32⟩
  | 29 => ⟨S16x2048x1, .f32⟩
  | 30 => ⟨S16x2048x1, .f32⟩
  | 31 => ⟨S16x2048x1, .f32⟩
  | 32 => ⟨S16x2048x1024, .f32⟩
  | 33 => ⟨S16x2048x1024, .f32⟩
  | 34 => ⟨S1x1x1024, .f32⟩
  | 35 => ⟨S16x2048x1024, .f32⟩
  | 36 => ⟨S16x2048x1024, .f32⟩
  | 37 => ⟨S32768x1024, .f32⟩
  | 38 => ⟨S32768x1024, .f32⟩
  | 39 => ⟨S32768x1024, .bf16⟩
  | 40 => ⟨S32768x8x128, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_c_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_c_7 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_call2_v0 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_9 : Ref sig .tc := ⟨.hbm, 71, rfl⟩
abbrev main_v38 : Ref sig .tc := ⟨.hbm, 72, rfl⟩
abbrev main_v39 : Ref sig .tc := ⟨.hbm, 73, rfl⟩
abbrev main_c_10 : Ref sig .tc := ⟨.hbm, 74, rfl⟩
abbrev main_c_11 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_c_13 : Ref sig .tc := ⟨.hbm, 85, rfl⟩
abbrev main_v43 : Ref sig .tc := ⟨.hbm, 86, rfl⟩
abbrev main_v44 : Ref sig .tc := ⟨.hbm, 87, rfl⟩
abbrev main_c_14 : Ref sig .tc := ⟨.hbm, 88, rfl⟩
abbrev main_c_15 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_c_16 : Ref sig .tc := ⟨.hbm, 98, rfl⟩
abbrev main_call5_v0 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_c_17 : Ref sig .tc := ⟨.hbm, 114, rfl⟩
abbrev main_v62 : Ref sig .tc := ⟨.hbm, 115, rfl⟩
abbrev main_v63 : Ref sig .tc := ⟨.hbm, 116, rfl⟩
abbrev main_c_18 : Ref sig .tc := ⟨.hbm, 117, rfl⟩
abbrev main_c_19 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_v64 : Ref sig .tc := ⟨.hbm, 124, rfl⟩
abbrev main_c_20 : Ref sig .tc := ⟨.hbm, 125, rfl⟩
abbrev main_v65 : Ref sig .tc := ⟨.hbm, 126, rfl⟩
abbrev main_v66 : Ref sig .tc := ⟨.hbm, 127, rfl⟩
abbrev main_c_21 : Ref sig .tc := ⟨.hbm, 128, rfl⟩
abbrev main_v67 : Ref sig .tc := ⟨.hbm, 129, rfl⟩
abbrev main_v68 : Ref sig .tc := ⟨.hbm, 130, rfl⟩
abbrev main_c_22 : Ref sig .tc := ⟨.hbm, 131, rfl⟩
abbrev main_c_23 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_c_24 : Ref sig .tc := ⟨.hbm, 141, rfl⟩
abbrev main_call8_v0 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_c_25 : Ref sig .tc := ⟨.hbm, 165, rfl⟩
abbrev main_v94 : Ref sig .tc := ⟨.hbm, 166, rfl⟩
abbrev main_v95 : Ref sig .tc := ⟨.hbm, 167, rfl⟩
abbrev main_c_26 : Ref sig .tc := ⟨.hbm, 168, rfl⟩
abbrev main_c_27 : Ref sig .tc := ⟨.hbm, 169, rfl⟩
abbrev main_call9_v0 : Ref sig .tc := ⟨.hbm, 170, rfl⟩
abbrev main_call9_v1 : Ref sig .tc := ⟨.hbm, 171, rfl⟩
abbrev main_call9_v2 : Ref sig .tc := ⟨.hbm, 172, rfl⟩
abbrev main_call9_v3 : Ref sig .tc := ⟨.hbm, 173, rfl⟩
abbrev main_call9_v4 : Ref sig .tc := ⟨.hbm, 174, rfl⟩
abbrev main_v96 : Ref sig .tc := ⟨.hbm, 175, rfl⟩
abbrev main_c_28 : Ref sig .tc := ⟨.hbm, 176, rfl⟩
abbrev main_v97 : Ref sig .tc := ⟨.hbm, 177, rfl⟩
abbrev main_v98 : Ref sig .tc := ⟨.hbm, 178, rfl⟩
abbrev main_c_29 : Ref sig .tc := ⟨.hbm, 179, rfl⟩
abbrev main_v99 : Ref sig .tc := ⟨.hbm, 180, rfl⟩
abbrev main_v100 : Ref sig .tc := ⟨.hbm, 181, rfl⟩
abbrev main_c_30 : Ref sig .tc := ⟨.hbm, 182, rfl⟩
abbrev main_c_31 : Ref sig .tc := ⟨.hbm, 183, rfl⟩
abbrev main_call10_v0 : Ref sig .tc := ⟨.hbm, 184, rfl⟩
abbrev main_call10_v1 : Ref sig .tc := ⟨.hbm, 185, rfl⟩
abbrev main_call10_v2 : Ref sig .tc := ⟨.hbm, 186, rfl⟩
abbrev main_call10_v3 : Ref sig .tc := ⟨.hbm, 187, rfl⟩
abbrev main_call10_v4 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_c_32 : Ref sig .tc := ⟨.hbm, 192, rfl⟩
abbrev main_call11_v0 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_cst_33 : Ref sig .tc := ⟨.hbm, 252, rfl⟩
abbrev main_v162 : Ref sig .tc := ⟨.hbm, 253, rfl⟩
abbrev main_v163 : Ref sig .tc := ⟨.hbm, 254, rfl⟩
abbrev main_cst_34 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_cst_35 : Ref sig .tc := ⟨.hbm, 278, rfl⟩
abbrev main_v186 : Ref sig .tc := ⟨.hbm, 279, rfl⟩
abbrev main_v187 : Ref sig .tc := ⟨.hbm, 280, rfl⟩
abbrev main_cst_36 : Ref sig .tc := ⟨.hbm, 281, rfl⟩
abbrev main_v188 : Ref sig .tc := ⟨.hbm, 282, rfl⟩
abbrev main_v189 : Ref sig .tc := ⟨.hbm, 283, rfl⟩
abbrev main_cst_37 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024 : Shape := ⟨2, ![1, 1024]⟩
abbrev S1x1024x1280 : Shape := ⟨3, ![1, 1024, 1280]⟩
abbrev S32768x1024 : Shape := ⟨2, ![32768, 1024]⟩
abbrev S1024 : Shape := ⟨1, ![1024]⟩
abbrev S1024x1280 : Shape := ⟨2, ![1024, 1280]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x1280 : Shape := ⟨2, ![512, 1280]⟩

abbrev nBuf : Space → Nat
  | .hbm => 12
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x1280, .f32⟩
  | .hbm, ⟨3, _⟩ => ⟨S32768x1024, .f32⟩
  | .hbm, ⟨4, _⟩ => ⟨S1024, .f32⟩
  | .hbm, ⟨5, _⟩ => ⟨S1x1024, .f32⟩
  | .hbm, ⟨6, _⟩ => ⟨S1024x1280, .f32⟩
  | .hbm, ⟨7, _⟩ => ⟨S1024x1280, .bf16⟩
  | .hbm, ⟨8, _⟩ => ⟨S32768x512, .bf16⟩
  | .hbm, ⟨9, _⟩ => ⟨S32768x128, .bf16⟩
  | .hbm, ⟨10, _⟩ => ⟨S32768x128, .bf16⟩
  | .hbm, ⟨11, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x512, .f32⟩
  | .local _ .vmem, ⟨11, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16x2048x1024 : Shape := ⟨3, ![16, 2048, 1024]⟩
abbrev S1x1024 : Shape := ⟨2, ![1, 1024]⟩
abbrev S1x1024x1280 : Shape := ⟨3, ![1, 1024, 1280]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x1280 : Shape := ⟨2, ![1024, 1280]⟩
abbrev S16x2048x1280 : Shape := ⟨3, ![16, 2048, 1280]⟩
abbrev S16x2048x512 : Shape := ⟨3, ![16, 2048, 512]⟩
abbrev S16x2048x128 : Shape := ⟨3, ![16, 2048, 128]⟩
abbrev S32768x512 : Shape := ⟨2, ![32768, 512]⟩
abbrev S32768x128 : Shape := ⟨2, ![32768, 128]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x1280, .f32⟩
  | .hbm, ⟨3, _⟩ => ⟨S1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S1024x1280, .f32⟩
  | .hbm, ⟨21, _⟩ => ⟨S16x2048x1280, .f32⟩
  | .hbm, ⟨22, _⟩ => ⟨S16x2048x512, .f32⟩
  | .hbm, ⟨23, _⟩ => ⟨S16x2048x128, .f32⟩
  | .hbm, ⟨24, _⟩ => ⟨S16x2048x128, .f32⟩
  | .hbm, ⟨25, _⟩ => ⟨S16x2048x512, .f32⟩
  | .hbm, ⟨26, _⟩ => ⟨S32768x512, .f32⟩
  | .hbm, ⟨27, _⟩ => ⟨S32768x512, .bf16⟩
  | .hbm, ⟨28, _⟩ => ⟨S32768x128, .f32⟩
  | .hbm, ⟨29, _⟩ => ⟨S32768x128, .bf16⟩
  | .hbm, ⟨30, _⟩ => ⟨S32768x128, .f32⟩
  | .hbm, ⟨31, _⟩ => ⟨S32768x128, .bf16⟩
  | .hbm, ⟨32, _⟩ => ⟨S32768x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel4.lean ====
abbrev S32768x1024 : Shape := ⟨2, ![32768, 1024]⟩
abbrev S1x1024x2048 : Shape := ⟨3, ![1, 1024, 2048]⟩
abbrev S1x8x2x128x128 : Shape := ⟨5, ![1, 8, 2, 128, 128]⟩
abbrev S1024x2048 : Shape := ⟨2, ![1024, 2048]⟩
abbrev S8x2x128x128 : Shape := ⟨4, ![8, 2, 128, 128]⟩
abbrev S32768x128 : Shape := ⟨2, ![32768, 128]⟩
abbrev S512x1024 : Shape := ⟨2, ![512, 1024]⟩
abbrev S512x128 : Shape := ⟨2, ![512, 128]⟩
abbrev S512x2048 : Shape := ⟨2, ![512, 2048]⟩
abbrev S128x512 : Shape := ⟨2, ![128, 512]⟩
abbrev S1x1x128x128 : Shape := ⟨4, ![1, 1, 128, 128]⟩
abbrev S128x128 : Shape := ⟨2, ![128, 128]⟩
abbrev S512 : Shape := ⟨1, ![512]⟩
abbrev S1x512 : Shape := ⟨2, ![1, 512]⟩
abbrev S16x512 : Shape := ⟨2, ![16, 512]⟩
abbrev S8x512 : Shape := ⟨2, ![8, 512]⟩
abbrev S80x512 : Shape := ⟨2, ![80, 512]⟩

abbrev nBuf : Space → Nat
  | .hbm => 9
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S1x1024x2048, .f32⟩
  | .hbm, ⟨2, _⟩ => ⟨S1x8x2x128x128, .f32⟩
  | .hbm, ⟨3, _⟩ => ⟨S1024x2048, .f32⟩
  | .hbm, ⟨4, _⟩ => ⟨S1024x2048, .bf16⟩
  | .hbm, ⟨5, _⟩ => ⟨S8x2x128x128, .f32⟩
  | .hbm, ⟨6, _⟩ => ⟨S8x2x128x128, .bf16⟩
  | .hbm, ⟨7, _⟩ => ⟨S32768x128, .i32⟩
  | .hbm, ⟨8, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S8x2x128x128, .bf16⟩
  | .local _ .vmem, ⟨4, _⟩ => ⟨S512x128, .i32⟩
  | .local _ .vmem, ⟨5, _⟩ => ⟨S512x128, .i32⟩
  | .local _ .vmem, ⟨6, _⟩ => ⟨S512x128, .f32⟩
  | .local _ .vmem, ⟨7, _⟩ => ⟨S512x128, .f32⟩
  | .local _ .vmem, ⟨8, _⟩ => ⟨S512x2048, .f32⟩
  | .local _ .vmem, ⟨9, _⟩ => ⟨S128x512, .f32⟩
  | .local _ .vmem, ⟨10, _⟩ => ⟨S128x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1_i32_21 : BitVec 32 := 1#32
  let c0_i32_22 : BitVec 32 := 0#32
  let v34 : BitVec 1 := Scalar.cmpi .eq c1_i32_21 c0_i32_22
  let c1_i32_23 : BitVec 32 := 1#32
  let v35 : BitVec 32 := Scalar.select v34 c1_i32_23 c1_i32_21
  let v36 : BitVec 32 := Scalar.remsi arg9 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c512_i32 : BitVec 32 := 512#32
  let v44 : BitVec 32 := Scalar.muli v43 c512_i32
  v44
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c0_i32_15 : BitVec 32 := 0#32
  let v18 : BitVec 1 := Scalar.cmpi .sgt arg9 c0_i32_15
  let v19 : BitVec 32 := Scalar.extui v18
  let c0_i32_16 : BitVec 32 := 0#32
  let v20 : BitVec 1 := Scalar.cmpi .slt arg9 c0_i32_16
  let v21 : BitVec 32 := Scalar.extui v20
  let v22 : BitVec 32 := Scalar.subi v19 v21
  let c1_i32_14 : BitVec 32 := 1#32
  let c0_i32_17 : BitVec 32 := 0#32
  let v23 : BitVec 1 := Scalar.cmpi .sgt c1_i32_14 c0_i32_17
  let v24 : BitVec 32 := Scalar.extui v23
  let c0_i32_18 : BitVec 32 := 0#32
  let v25 : BitVec 1 := Scalar.cmpi .slt c1_i32_14 c0_i32_18
  let v26 : BitVec 32 := Scalar.extui v25
  let v27 : BitVec 32 := Scalar.subi v24 v26
  let v28 : BitVec 1 := Scalar.cmpi .ne v22 v27
  let v29 : BitVec 32 := Scalar.remsi arg9 c1_i32_14
  let c0_i32_19 : BitVec 32 := 0#32
  let v30 : BitVec 1 := Scalar.cmpi .ne v29 c0_i32_19
  let v31 : BitVec 1 := Scalar.andi v28 v30
  let v17 : BitVec 32 := Scalar.divsi arg9 c1_i32_14
  let c1_i32_20 : BitVec 32 := 1#32
  let v32 : BitVec 32 := Scalar.subi v17 c1_i32_20
  let v33 : BitVec 32 := Scalar.select v31 v32 v17
  let c2_i32 : BitVec 32 := 2#32
  let v46 : BitVec 32 := Scalar.muli v33 c2_i32
  let c0_i32_27 : BitVec 32 := 0#32
  let v47 : BitVec 32 := Scalar.addi v46 c0_i32_27
  let c128_i32 : BitVec 32 := 128#32
  let v48 : BitVec 32 := Scalar.muli v47 c128_i32
  v48
def k0_off1 (k0_t1 : Fin k0_t1_loop.trips) (c0_i32_27 : BitVec 32) : Fin 2 → Nat :=
  let c0_i32 : BitVec 32 := 0#32
  let c1_i32 : BitVec 32 := 1#32
  let arg9 : BitVec 32 := Scf.iv c0_i32 c1_i32 k0_t1
  let c1_i32_21 : BitVec 32 := 1#32
  let c0_i32_22 : BitVec 32 := 0#32
  let v34 : BitVec 1 := Scalar.cmpi .eq c1_i32_21 c0_i32_22
  let c1_i32_23 : BitVec 32 := 1#32
  let v35 : BitVec 32 := Scalar.select v34 c1_i32_23 c1_i32_21
  let v36 : BitVec 32 := Scalar.remsi arg9 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c512_i32 : BitVec 32 := 512#32
  let v44 : BitVec 32 := Scalar.muli v43 c512_i32
  let v45 : BitVec 32 := v44
  let v50 : Index := Scalar.indexCast v45
  let c0_i32_15 : BitVec 32 := 0#32
  let v18 : BitVec 1 := Scalar.cmpi .sgt arg9 c0_i32_15
  let v19 : BitVec 32 := Scalar.extui v18
  let c0_i32_16 : BitVec 32 := 0#32
  let v20 : BitVec 1 := Scalar.cmpi .slt arg9 c0_i32_16
  let v21 : BitVec 32 := Scalar.extui v20
  let v22 : BitVec 32 := Scalar.subi v19 v21
  let c1_i32_14 : BitVec 32 := 1#32
  let c0_i32_17 : BitVec 32 := 0#32
  let v23 : BitVec 1 := Scalar.cmpi .sgt c1_i32_14 c0_i32_17
  let v24 : BitVec 32 := Scalar.extui v23
  let c0_i32_18 : BitVec 32 := 0#32
  let v25 : BitVec 1 := Scalar.cmpi .slt c1_i32_14 c0_i32_18
  let v26 : BitVec 32 := Scalar.extui v25
  let v27 : BitVec 32 := Scalar.subi v24 v26
  let v28 : BitVec 1 := Scalar.cmpi .ne v22 v27
  let v29 : BitVec 32 := Scalar.remsi arg9 c1_i32_14
  let c0_i32_19 : BitVec 32 := 0#32
  let v30 : BitVec 1 := Scalar.cmpi .ne v29 c0_i32_19
  let v31 : BitVec 1 := Scalar.andi v28 v30
  let v17 : BitVec 32 := Scalar.divsi arg9 c1_i32_14
  let c1_i32_20 : BitVec 32 := 1#32
  let v32 : BitVec 32 := Scalar.subi v17 c1_i32_20
  let v33 : BitVec 32 := Scalar.select v31 v32 v17
  let c2_i32 : BitVec 32 := 2#32
  let v46 : BitVec 32 := Scalar.muli v33 c2_i32
  let v47 : BitVec 32 := Scalar.addi v46 c0_i32_27
  let c128_i32 : BitVec 32 := 128#32
  let v48 : BitVec 32 := Scalar.muli v47 c128_i32
  let v49 : BitVec 32 := v48
  let v51 : Index := Scalar.indexCast v49
  ![v50.toNat, v51.toNat]
def k0_off2 (k0_t1 : Fin k0_t1_loop.trips) : Fin 4 → Nat :=
  let c0_i32 : BitVec 32 := 0#32
  let c1_i32 : BitVec 32 := 1#32
  let arg9 : BitVec 32 := Scf.iv c0_i32 c1_i32 k0_t1
  let c0_i32_15 : BitVec 32 := 0#32
  let v18 : BitVec 1 := Scalar.cmpi .sgt arg9 c0_i32_15
  let v19 : BitVec 32 := Scalar.extui v18
  let c0_i32_16 : BitVec 32 := 0#32
  let v20 : BitVec 1 := Scalar.cmpi .slt arg9 c0_i32_16
  let v21 : BitVec 32 := Scalar.extui v20
  let v22 : BitVec 32 := Scalar.subi v19 v21
  let c1_i32_14 : BitVec 32 := 1#32
  let c0_i32_17 : BitVec 32 := 0#32
  let v23 : BitVec 1 := Scalar.cmpi .sgt c1_i32_14 c0_i32_17
  let v24 : BitVec 32 := Scalar.extui v23
  let c0_i32_18 : BitVec 32 := 0#32
  let v25 : BitVec 1 := Scalar.cmpi .slt c1_i32_14 c0_i32_18
  let v26 : BitVec 32 := Scalar.extui v25
  let v27 : BitVec 32 := Scalar.subi v24 v26
  let v28 : BitVec 1 := Scalar.cmpi .ne v22 v27
  let v29 : BitVec 32 := Scalar.remsi arg9 c1_i32_14
  let c0_i32_19 : BitVec 32 := 0#32
  let v30 : BitVec 1 := Scalar.cmpi .ne v29 c0_i32_19
  let v31 : BitVec 1 := Scalar.andi v28 v30
  let v17 : BitVec 32 := Scalar.divsi arg9 c1_i32_14
  let c1_i32_20 : BitVec 32 := 1#32
  let v32 : BitVec 32 := Scalar.subi v17 c1_i32_20
  let v33 : BitVec 32 := Scalar.select v31 v32 v17
  let v54 : Index := Scalar.indexCast v33
  let c0_28 : Index := 0#32
  let c0_29 : Index := 0#32
  let c0_30 : Index := 0#32
  ![v54.toNat, 0, 0, 0]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c0_i32_15 : BitVec 32 := 0#32
  let v18 : BitVec 1 := Scalar.cmpi .sgt arg9 c0_i32_15
  let v19 : BitVec 32 := Scalar.extui v18
  let c0_i32_16 : BitVec 32 := 0#32
  let v20 : BitVec 1 := Scalar.cmpi .slt arg9 c0_i32_16
  let v21 : BitVec 32 := Scalar.extui v20
  let v22 : BitVec 32 := Scalar.subi v19 v21
  let c1_i32_14 : BitVec 32 := 1#32
  let c0_i32_17 : BitVec 32 := 0#32
  let v23 : BitVec 1 := Scalar.cmpi .sgt c1_i32_14 c0_i32_17
  let v24 : BitVec 32 := Scalar.extui v23
  let c0_i32_18 : BitVec 32 := 0#32
  let v25 : BitVec 1 := Scalar.cmpi .slt c1_i32_14 c0_i32_18
  let v26 : BitVec 32 := Scalar.extui v25
  let v27 : BitVec 32 := Scalar.subi v24 v26
  let v28 : BitVec 1 := Scalar.cmpi .ne v22 v27
  let v29 : BitVec 32 := Scalar.remsi arg9 c1_i32_14
  let c0_i32_19 : BitVec 32 := 0#32
  let v30 : BitVec 1 := Scalar.cmpi .ne v29 c0_i32_19
  let v31 : BitVec 1 := Scalar.andi v28 v30
  let v17 : BitVec 32 := Scalar.divsi arg9 c1_i32_14
  let c1_i32_20 : BitVec 32 := 1#32
  let v32 : BitVec 32 := Scalar.subi v17 c1_i32_20
  let v33 : BitVec 32 := Scalar.select v31 v32 v17
  let c2_i32_95 : BitVec 32 := 2#32
  let v248 : BitVec 32 := Scalar.muli v33 c2_i32_95
  let c1_i32_96 : BitVec 32 := 1#32
  let v249 : BitVec 32 := Scalar.addi v248 c1_i32_96
  let c128_i32_97 : BitVec 32 := 128#32
  let v250 : BitVec 32 := Scalar.muli v249 c128_i32_97
  v250
def k0_off3 (k0_t1 : Fin k0_t1_loop.trips) : Fin 4 → Nat :=
  let c0_i32 : BitVec 32 := 0#32
  let c1_i32 : BitVec 32 := 1#32
  let arg9 : BitVec 32 := Scf.iv c0_i32 c1_i32 k0_t1
  let c0_i32_15 : BitVec 32 := 0#32
  let v18 : BitVec 1 := Scalar.cmpi .sgt arg9 c0_i32_15
  let v19 : BitVec 32 := Scalar.extui v18
  let c0_i32_16 : BitVec 32 := 0#32
  let v20 : BitVec 1 := Scalar.cmpi .slt arg9 c0_i32_16
  let v21 : BitVec 32 := Scalar.extui v20
  let v22 : BitVec 32 := Scalar.subi v19 v21
  let c1_i32_14 : BitVec 32 := 1#32
  let c0_i32_17 : BitVec 32 := 0#32
  let v23 : BitVec 1 := Scalar.cmpi .sgt c1_i32_14 c0_i32_17
  let v24 : BitVec 32 := Scalar.extui v23
  let c0_i32_18 : BitVec 32 := 0#32
  let v25 : BitVec 1 := Scalar.cmpi .slt c1_i32_14 c0_i32_18
  let v26 : BitVec 32 := Scalar.extui v25
  let v27 : BitVec 32 := Scalar.subi v24 v26
  let v28 : BitVec 1 := Scalar.cmpi .ne v22 v27
  let v29 : BitVec 32 := Scalar.remsi arg9 c1_i32_14
  let c0_i32_19 : BitVec 32 := 0#32
  let v30 : BitVec 1 := Scalar.cmpi .ne v29 c0_i32_19
  let v31 : BitVec 1 := Scalar.andi v28 v30
  let v17 : BitVec 32 := Scalar.divsi arg9 c1_i32_14
  let c1_i32_20 : BitVec 32 := 1#32
  let v32 : BitVec 32 := Scalar.subi v17 c1_i32_20
  let v33 : BitVec 32 := Scalar.select v31 v32 v17
  let v256 : Index := Scalar.indexCast v33
  let c1 : Index := 1#32
  let c0_98 : Index := 0#32
  let c0_99 : Index := 0#32
  ![v256.toNat, 1, 0, 0]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c0_i32_15 : BitVec 32 := 0#32
  let v18 : BitVec 1 := Scalar.cmpi .sgt arg9 c0_i32_15
  let v19 : BitVec 32 := Scalar.extui v18
  let c0_i32_16 : BitVec 32 := 0#32
  let v20 : BitVec 1 := Scalar.cmpi .slt arg9 c0_i32_16
  let v21 : BitVec 32 := Scalar.extui v20
  let v22 : BitVec 32 := Scalar.subi v19 v21
  let c1_i32_14 : BitVec 32 := 1#32
  let c0_i32_17 : BitVec 32 := 0#32
  let v23 : BitVec 1 := Scalar.cmpi .sgt c1_i32_14 c0_i32_17
  let v24 : BitVec 32 := Scalar.extui v23
  let c0_i32_18 : BitVec 32 := 0#32
  let v25 : BitVec 1 := Scalar.cmpi .slt c1_i32_14 c0_i32_18
  let v26 : BitVec 32 := Scalar.extui v25
  let v27 : BitVec 32 := Scalar.subi v24 v26
  let v28 : BitVec 1 := Scalar.cmpi .ne v22 v27
  let v29 : BitVec 32 := Scalar.remsi arg9 c1_i32_14
  let c0_i32_19 : BitVec 32 := 0#32
  let v30 : BitVec 1 := Scalar.cmpi .ne v29 c0_i32_19
  let v31 : BitVec 1 := Scalar.andi v28 v30
  let v17 : BitVec 32 := Scalar.divsi arg9 c1_i32_14
  let c1_i32_20 : BitVec 32 := 1#32
  let v32 : BitVec 32 := Scalar.subi v17 c1_i32_20
  let v33 : BitVec 32 := Scalar.select v31 v32 v17
  let c16_i32 : BitVec 32 := 16#32
  let v877 : BitVec 32 := Scalar.muli v33 c16_i32
  v877
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c0_i32_15 : BitVec 32 := 0#32
  let v18 : BitVec 1 := Scalar.cmpi .sgt arg9 c0_i32_15
  let v19 : BitVec 32 := Scalar.extui v18
  let c0_i32_16 : BitVec 32 := 0#32
  let v20 : BitVec 1 := Scalar.cmpi .slt arg9 c0_i32_16
  let v21 : BitVec 32 := Scalar.extui v20
  let v22 : BitVec 32 := Scalar.subi v19 v21
  let c1_i32_14 : BitVec 32 := 1#32
  let c0_i32_17 : BitVec 32 := 0#32
  let v23 : BitVec 1 := Scalar.cmpi .sgt c1_i32_14 c0_i32_17
  let v24 : BitVec 32 := Scalar.extui v23
  let c0_i32_18 : BitVec 32 := 0#32
  let v25 : BitVec 1 := Scalar.cmpi .slt c1_i32_14 c0_i32_18
  let v26 : BitVec 32 := Scalar.extui v25
  let v27 : BitVec 32 := Scalar.subi v24 v26
  let v28 : BitVec 1 := Scalar.cmpi .ne v22 v27
  let v29 : BitVec 32 := Scalar.remsi arg9 c1_i32_14
  let c0_i32_19 : BitVec 32 := 0#32
  let v30 : BitVec 1 := Scalar.cmpi .ne v29 c0_i32_19
  let v31 : BitVec 1 := Scalar.andi v28 v30
  let v17 : BitVec 32 := Scalar.divsi arg9 c1_i32_14
  let c1_i32_20 : BitVec 32 := 1#32
  let v32 : BitVec 32 := Scalar.subi v17 c1_i32_20
  let v33 : BitVec 32 := Scalar.select v31 v32 v17
  let c16_i32 : BitVec 32 := 16#32
  let v877 : BitVec 32 := Scalar.muli v33 c16_i32
  let v878 : BitVec 32 := v877
  let v883 : Index := Scalar.indexCast v878
  let c1_i32_21 : BitVec 32 := 1#32
  let c0_i32_22 : BitVec 32 := 0#32
  let v34 : BitVec 1 := Scalar.cmpi .eq c1_i32_21 c0_i32_22
  let c1_i32_23 : BitVec 32 := 1#32
  let v35 : BitVec 32 := Scalar.select v34 c1_i32_23 c1_i32_21
  let v36 : BitVec 32 := Scalar.remsi arg9 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c512_i32 : BitVec 32 := 512#32
  let v44 : BitVec 32 := Scalar.muli v43 c512_i32
  let v45 : BitVec 32 := v44
  let v884 : Index := Scalar.indexCast v45
  ![v883.toNat, v884.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.AttnSpec.lean ====
/- The attention of one output element, as extended-real arithmetic: what both programs are shown to compute. -/
module

public import Idealize.ShloMosaic.Lib.Pointwise

@[expose] public section

noncomputable section

namespace Cert.Attn

open Idealize.ShloMosaic

/-- The distance between query row `r` of a block and band position `c`, as the word both programs compute. -/
def dist (r : Fin 128) (c : Fin 384) : BitVec 32 :=
  IntOp.absi (IntOp.subi (IntOp.addi (BitVec.ofNat 32 r.val) 128#32) (BitVec.ofNat 32 c.val))

/-- The sequence position that band position `c` of query block `n` stands for, as a signed word. -/
def pos (n : Fin 16) (c : Fin 384) : BitVec 32 :=
  IntOp.addi (IntOp.subi (IntOp.muli (BitVec.ofNat 32 n.val) 128#32) 128#32) (BitVec.ofNat 32 c.val)

/-- Whether band position `c` of block `n` lies inside the sequence. -/
def inside (n : Fin 16) (c : Fin 384) : BitVec 1 :=
  IntOp.andi (IntOp.cmpi .sge (pos n c) 0#32) (IntOp.cmpi .slt (pos n c) 2048#32)

/-- Whether query row `r` of block `n` looks at band position `c`: in the window and inside the sequence. -/
def inBand (n : Fin 16) (r : Fin 128) (c : Fin 384) : BitVec 1 :=
  IntOp.andi (IntOp.cmpi .sle (dist r c) 128#32) (inside n c)

/-- The word of the distance slope of query head `h`: two to the power `-(h+1)`. -/
def slopeWord (h : Fin 8) : BitVec 32 :=
  match h with
  | 0 => 0x3F000000#32
  | 1 => 0x3E800000#32
  | 2 => 0x3E000000#32
  | 3 => 0x3D800000#32
  | 4 => 0x3D000000#32
  | 5 => 0x3C800000#32
  | 6 => 0x3C000000#32
  | 7 => 0x3B800000#32

/-- The masked score of query row `r` at band position `c` for head `h`, from the query's and the key's 64 numbers. -/
def score (h : Fin 8) (n : Fin 16) (r : Fin 128) (c : Fin 384) (q k : Fin 64 → EReal) : EReal :=
  Scalar.select (inBand n r c)
    ((∑ d, q d * k d) * Ideal.ofBits .f32 0x3E000000#32
      - Ideal.ofBits .f32 (slopeWord h) * FloatOps.sitofp (F := Ideal) .f32 (dist r c))
    (⊥ : EReal)

/-- The largest of the 384 scores and the sink. -/
def top (l : Fin 384 → EReal) (s : EReal) : EReal :=
  max (Finset.univ.fold max ⊥ l) s

/-- The sum of the exponentials of the scores and of the sink. -/
def mass (l : Fin 384 → EReal) (s : EReal) : EReal :=
  (∑ c, Ideal.exp (l c - top l s)) + Ideal.exp (s - top l s)

/-- The kernel's form: the weighted sum of the values, divided by the mass once at the end. -/
def attLate (l : Fin 384 → EReal) (s : EReal) (v : Fin 384 → EReal) : EReal :=
  Ideal.div (∑ c, Ideal.exp (l c - top l s) * v c) (mass l s)

/-- The reference's form: every exponential divided by the mass first (a softmax), then the weighted sum. -/
def attSoft (l : Fin 384 → EReal) (s : EReal) (v : Fin 384 → EReal) : EReal :=
  ∑ c, v c * Ideal.div (Ideal.exp (l c - top l s)) (mass l s)

/-- The fold of `max` from minus infinity is below `b` when every term is. -/
theorem fold_lt {l : Fin 384 → EReal} {b : EReal} (hb : ⊥ < b) (h : ∀ c, l c < b) :
    Finset.univ.fold max ⊥ l < b :=
  (Finset.fold_max_lt b).2 ⟨hb, fun c _ => h c⟩

/-- A nonnegative finite factor moves into a sum. -/
theorem sum_mul_nonneg {n : ℕ} (f : Fin n → EReal) (x : EReal) (h0 : 0 ≤ x) (ht : x ≠ ⊤) :
    (∑ c, f c) * x = ∑ c, f c * x := by
  induction (Finset.univ : Finset (Fin n)) using Finset.induction_on with
  | empty => simp
  | insert a s ha ih =>
    rw [Finset.sum_insert ha, Finset.sum_insert ha, ← ih, EReal.right_distrib_of_nonneg_of_ne_top h0 ht]

/-- The two forms agree where the sink is a number, no score is plus infinity, and the two value rows agree wherever the
    score is not minus infinity. -/
theorem attLate_eq_attSoft (l : Fin 384 → EReal) (s : EReal) (v v' : Fin 384 → EReal) (hs : s ≠ ⊥) (hs' : s ≠ ⊤)
    (hl : ∀ c, l c ≠ ⊤) (hv : ∀ c, l c = ⊥ ∨ v c = v' c) : attLate l s v = attSoft l s v' := by
  have htop : top l s < ⊤ := by
    unfold top
    exact max_lt (fold_lt (by simp) fun c => lt_top_iff_ne_top.2 (hl c)) (lt_top_iff_ne_top.2 hs')
  have hbot : ⊥ < top l s := lt_of_lt_of_le (bot_lt_iff_ne_bot.2 hs) (le_max_right _ _)
  obtain ⟨M, hM⟩ : ∃ M : ℝ, top l s = (M : EReal) := ⟨(top l s).toReal, (EReal.coe_toReal htop.ne hbot.ne').symm⟩
  obtain ⟨S, rfl⟩ : ∃ S : ℝ, s = (S : EReal) := ⟨s.toReal, (EReal.coe_toReal hs' hs).symm⟩
  -- each exponential is a nonnegative real
  have hp : ∀ c, ∃ p : ℝ, 0 ≤ p ∧ Ideal.exp (l c - top l S) = (p : EReal) ∧ (l c = ⊥ → p = 0) := by
    intro c
    rw [hM]
    induction h : l c with
    | bot => exact ⟨0, le_rfl, by rw [EReal.bot_sub]; rfl, fun _ => rfl⟩
    | top => exact absurd h (hl c)
    | coe x =>
      refine ⟨Real.exp (x - M), (Real.exp_pos _).le, ?_, fun h => absurd h (EReal.coe_ne_bot _)⟩
      rw [← EReal.coe_sub]; rfl
  choose p hp0 hpe hpb using hp
  have hD : mass l S = ((∑ c, p c + Real.exp (S - M) : ℝ) : EReal) := by
    unfold mass
    rw [EReal.coe_add, hM, ← EReal.coe_sub]
    congr 1
    rw [← hM]
    simp only [hpe]
    norm_cast
  have hDpos : 0 < ∑ c, p c + Real.exp (S - M) :=
    add_pos_of_nonneg_of_pos (Finset.sum_nonneg fun c _ => hp0 c) (Real.exp_pos _)
  have hDne : mass l S ≠ 0 := by
    rw [hD]; exact_mod_cast hDpos.ne'
  have hinv : (mass l S)⁻¹ = ((∑ c, p c + Real.exp (S - M))⁻¹ : ℝ) := by
    rw [hD]; rfl
  unfold attLate attSoft
  simp only [Ideal.div, if_neg hDne]
  rw [sum_mul_nonneg _ _ (by rw [hinv]; exact_mod_cast (inv_pos.2 hDpos).le) (by rw [hinv]; exact EReal.coe_ne_top _)]
  refine Finset.sum_congr rfl fun c _ => ?_
  rcases hv c with h | h
  · rw [hpe, hpb c h]; simp
  · rw [h, mul_comm (Ideal.exp _) (v' c), mul_assoc]

end Cert.Attn

end
-- ==== Proof.AttnBlock.lean ====
/- What the attention kernel's body leaves in its output block, element by element. -/
module

public import proofs.«01_k».proof.Proof.Gen.KernelIdeal.Value
public import proofs.«01_k».proof.Proof.AttnSpec

@[expose] public section

set_option maxRecDepth 16384

noncomputable section

namespace Cert.Attn

open Idealize.ShloMosaic Cert.KernelIdeal Cert.KernelIdeal.Gen Idealize.ShloMosaic.TcCoe Idealize.SL.Sem

/-- The row of the stacked 512-row block that holds row `r` of group member `g`. -/
def rows (g : Fin 4) (r : Fin 128) : Fin 512 :=
  match g with
  | 0 => ⟨r.val, by omega⟩
  | 1 => ⟨128 + r.val, by omega⟩
  | 2 => ⟨256 + r.val, by omega⟩
  | 3 => ⟨384 + r.val, by omega⟩

theorem rows_div (g : Fin 4) (r : Fin 128) : (rows g r).val / 128 = g.val := by
  fin_cases g <;> simp only [rows] <;> omega

theorem rows_mod (g : Fin 4) (r : Fin 128) : (rows g r).val % 128 = r.val := by
  fin_cases g <;> simp only [rows] <;> omega

/-- The lane of a 512-lane row that holds coordinate `d` of head `h`. -/
def col (h : Fin 8) (d : Fin 64) : Fin 512 := ⟨h.val * 64 + d.val, by omega⟩

/-- The lane of a 128-lane row that holds coordinate `d` of key/value head `kh`. -/
def kcol (kh : Fin 2) (d : Fin 64) : Fin 128 := ⟨kh.val * 64 + d.val, by omega⟩

/-- The key/value head and the group member of a query head. -/
def khOf (h : Fin 8) : Fin 2 := ⟨h.val / 4, by omega⟩
def gOf (h : Fin 8) : Fin 4 := ⟨h.val % 4, by omega⟩

/-- Row `c` of the three blocks laid one after the other, at lane `j`. -/
def band (K0 K1 K2 : Vec Ideal S1x128x128 .bf16) (c : Fin 384) (j : Fin 128) : EReal :=
  if h : c.val < 128 then K0 (ix3 0 ⟨c.val, h⟩ j)
  else if h : c.val - 128 < 128 then K1 (ix3 0 ⟨c.val - 128, h⟩ j)
  else K2 (ix3 0 ⟨c.val - 128 - 128, by omega⟩ j)

/-! ## The integer words -/

/-- A stacked row's index modulo 128. -/
theorem pay2_apply (r : Fin 512) (c : Fin 384) : k0_pay2 (ix2 r c) = BitVec.ofNat 32 (r.val % 128) := by
  pointwise [k0_pay2]
  revert r
  decide +kernel

/-- A stacked row's index divided by 128. -/
theorem pay3_apply (r : Fin 512) (c : Fin 384) : k0_pay3 (ix2 r c) = BitVec.ofNat 32 (r.val / 128) := by
  pointwise [k0_pay3]
  revert r
  decide +kernel

theorem pay8_apply (r : Fin 512) (c : Fin 1) : k0_pay8 (ix2 r c) = BitVec.ofNat 32 (r.val / 128) := by
  pointwise [k0_pay8]
  revert r
  decide +kernel

/-- The kernel's two bounds on the band position say that the position is inside the sequence. -/
theorem inside_eq (n : Fin 16) (c : Fin 384) :
    IntOp.andi
      (IntOp.cmpi .sge (BitVec.ofNat 32 c.val) (Scalar.select (Scalar.cmpi .eq (BitVec.ofNat 32 n.val) 0#32) 128#32 0#32))
      (IntOp.cmpi .slt (BitVec.ofNat 32 c.val) (Scalar.select (Scalar.cmpi .eq (BitVec.ofNat 32 n.val) 15#32) 256#32 384#32))
    = inside n c := by
  revert n c
  decide +kernel

abbrev lanes : IVec S512x384 32 := iota .tc S512x384 32 [1] iota_S512x384_d1_w32

/-- The kernel's distances. -/
theorem pay5_apply (g : Fin 4) (r : Fin 128) (c : Fin 384) :
    k0_pay5 k0_pay2 lanes k0_pay4 (ix2 (rows g r) c) = dist r c := by
  pointwise [k0_pay5, k0_pay4, lanes, pay2_apply, rows_mod]
  rfl

/-- The kernel's mask is the window and the sequence's bounds. -/
theorem pay6_apply (n : Fin 16) (g : Fin 4) (r : Fin 128) (c : Fin 384) :
    k0_pay6 (BitVec.ofNat 32 n.val) k0_pay2 lanes k0_pay4 (ix2 (rows g r) c) = inBand n r c := by
  unfold inBand
  rw [← inside_eq, ← pay5_apply g r c]
  pointwise [k0_pay6]
  exact BitVec.and_assoc _ _ _

theorem pay7_apply (g : Fin 4) (r : Fin 128) (c : Fin 384) :
    k0_pay7 (F := Ideal) k0_pay2 lanes k0_pay4 (ix2 (rows g r) c) = FloatOps.sitofp (F := Ideal) .f32 (dist r c) := by
  rw [← pay5_apply g r c]
  rfl

/-! ## The scores and the sink -/

/-- Reading a stack of four 128-row pieces at a row of piece `g`. -/
theorem rows_pick {α : Type} (g : Fin 4) (r : Fin 128) (f0 f1 f2 f3 : Fin 128 → α) :
    (if h1 : (rows g r).val < 128 then f0 ⟨(rows g r).val, h1⟩
      else if h2 : (rows g r).val - 128 < 128 then f1 ⟨(rows g r).val - 128, h2⟩
      else if h3 : (rows g r).val - 128 - 128 < 128 then f2 ⟨(rows g r).val - 128 - 128, h3⟩
      else f3 ⟨(rows g r).val - 128 - 128 - 128, by omega⟩)
    = match g with | 0 => f0 r | 1 => f1 r | 2 => f2 r | 3 => f3 r := by
  have hr := r.isLt
  match g with
  | 0 =>
    have e : (rows 0 r).val = 0 + r.val := by simp [rows]
    rw [dif_pos (show (rows 0 r).val < 128 by omega)]
    exact congrArg f0 (Fin.ext (show (rows 0 r).val = r.val by omega))
  | 1 =>
    have e : (rows 1 r).val = 128 + r.val := by simp [rows]
    rw [dif_neg (show ¬ ((rows 1 r).val < 128) by omega)]
    rw [dif_pos (show (rows 1 r).val - 128 < 128 by omega)]
    exact congrArg f1 (Fin.ext (show (rows 1 r).val - 128 = r.val by omega))
  | 2 =>
    have e : (rows 2 r).val = 256 + r.val := by simp [rows]
    rw [dif_neg (show ¬ ((rows 2 r).val < 128) by omega)]
    rw [dif_neg (show ¬ ((rows 2 r).val - 128 < 128) by omega)]
    rw [dif_pos (show (rows 2 r).val - 128 - 128 < 128 by omega)]
    exact congrArg f2 (Fin.ext (show (rows 2 r).val - 128 - 128 = r.val by omega))
  | 3 =>
    have e : (rows 3 r).val = 384 + r.val := by simp [rows]
    rw [dif_neg (show ¬ ((rows 3 r).val < 128) by omega)]
    rw [dif_neg (show ¬ ((rows 3 r).val - 128 < 128) by omega)]
    rw [dif_neg (show ¬ ((rows 3 r).val - 128 - 128 < 128) by omega)]
    exact congrArg f3 (Fin.ext (show (rows 3 r).val - 128 - 128 - 128 = r.val by omega))

theorem mask_val : Named.named (F := Ideal) κ "mask" (φ := .f32) 0xF149F2CA#32 = (⊥ : EReal) :=
  IdealRules.named_const.ideal_named_scalar _ _ _ _ rfl

/-- The scaled products of the first four heads' queries with the first key head. -/
theorem pay11_apply (Q : Vec Ideal S1x128x512 .bf16) (K0 K1 K2 : Vec Ideal S1x128x128 .bf16) (h : Fin 8) (hh : khOf h = 0)
    (r : Fin 128) (c : Fin 384) :
    k0_pay11 (F := Ideal) (k0_pay9 Q) K0 K1 K2 (ix2 (rows (gOf h) r) c)
      = (∑ d, Q (ix3 0 r (col h d)) * band K0 K1 K2 c (kcol 0 d)) * Ideal.ofBits .f32 0x3E000000#32 := by
  pointwise [k0_pay11, k0_pay9]
  refine congrArg (· * _) (Finset.sum_congr rfl fun x _ => congrArg₂ (· * ·) ?_ ?_)
  · refine (rows_pick (gOf h) r (fun i => Q (ix3 0 i ⟨x.val, by omega⟩)) (fun i => Q (ix3 0 i ⟨64 + x.val, by omega⟩))
      (fun i => Q (ix3 0 i ⟨128 + x.val, by omega⟩)) (fun i => Q (ix3 0 i ⟨192 + x.val, by omega⟩))).trans ?_
    revert hh
    fin_cases h <;> intro hh <;> first
      | exact absurd hh (by decide)
      | exact congrArg (fun j => Q (ix3 0 r j)) (Fin.ext (by simp [col]))
  · unfold band kcol
    split_ifs <;> (congr 2; try (apply Fin.ext; simp))

theorem pay27_apply (Q : Vec Ideal S1x128x512 .bf16) (K0 K1 K2 : Vec Ideal S1x128x128 .bf16) (h : Fin 8) (hh : khOf h = 1)
    (r : Fin 128) (c : Fin 384) :
    k0_pay27 (F := Ideal) (k0_pay9 Q) K0 K1 K2 (ix2 (rows (gOf h) r) c)
      = (∑ d, Q (ix3 0 r (col h d)) * band K0 K1 K2 c (kcol 1 d)) * Ideal.ofBits .f32 0x3E000000#32 := by
  pointwise [k0_pay27, k0_pay9]
  refine congrArg (· * _) (Finset.sum_congr rfl fun x _ => congrArg₂ (· * ·) ?_ ?_)
  · refine (rows_pick (gOf h) r (fun i => Q (ix3 0 i ⟨256 + x.val, by omega⟩)) (fun i => Q (ix3 0 i ⟨320 + x.val, by omega⟩))
      (fun i => Q (ix3 0 i ⟨384 + x.val, by omega⟩)) (fun i => Q (ix3 0 i ⟨448 + x.val, by omega⟩))).trans ?_
    revert hh
    fin_cases h <;> intro hh <;> first
      | exact absurd hh (by decide)
      | exact congrArg (fun j => Q (ix3 0 r j)) (Fin.ext (by simp [col]))
  · unfold band kcol
    split_ifs <;> (congr 2; try (apply Fin.ext; simp))

theorem pay16_apply (v58 : IVec S512x384 1) (v59 v114 : FVec Ideal S512x384 .f32) (h : Fin 8) (hh : khOf h = 0)
    (r : Fin 128) (c : Fin 384) :
    k0_pay16 (F := Ideal) k0_pay3 v58 v59 v114 (k0_pay13 k0_pay3) (ix2 (rows (gOf h) r) c)
      = Scalar.select (v58 (ix2 (rows (gOf h) r) c)) (v114 (ix2 (rows (gOf h) r) c)
          - Ideal.ofBits .f32 (slopeWord h) * v59 (ix2 (rows (gOf h) r) c)) (⊥ : EReal) := by
  pointwise [k0_pay16, k0_pay13, pay3_apply, mask_val, rows_div]
  revert hh
  fin_cases h <;> intro hh <;> first | rfl | exact absurd hh (by decide)

theorem pay29_apply (v58 : IVec S512x384 1) (v59 v203 : FVec Ideal S512x384 .f32) (h : Fin 8) (hh : khOf h = 1)
    (r : Fin 128) (c : Fin 384) :
    k0_pay29 (F := Ideal) k0_pay3 v58 v59 v203 (FloatOps.ofBits .f32 0#32) (ix2 (rows (gOf h) r) c)
      = Scalar.select (v58 (ix2 (rows (gOf h) r) c)) (v203 (ix2 (rows (gOf h) r) c)
          - Ideal.ofBits .f32 (slopeWord h) * v59 (ix2 (rows (gOf h) r) c)) (⊥ : EReal) := by
  pointwise [k0_pay29, pay3_apply, mask_val, rows_div]
  revert hh
  fin_cases h <;> intro hh <;> first | rfl | exact absurd hh (by decide)

theorem pay15_apply (s : Fin 8 → EReal) (h : Fin 8) (hh : khOf h = 0) (r : Fin 128) :
    k0_pay15 (F := Ideal) k0_pay8 k0_pay12 k0_pay14 (s 0) (s 1) (s 2) (s 3) (ix2 (rows (gOf h) r) 0) = s h := by
  pointwise [k0_pay15, k0_pay12, k0_pay14, pay8_apply, rows_div]
  revert hh
  fin_cases h <;> intro hh <;> first | rfl | exact absurd hh (by decide)

theorem pay28_apply (s : Fin 8 → EReal) (h : Fin 8) (hh : khOf h = 1) (r : Fin 128) :
    k0_pay28 (F := Ideal) k0_pay8 (s 4) (s 5) (s 6) (s 7) (ix2 (rows (gOf h) r) 0) = s h := by
  pointwise [k0_pay28, pay8_apply, rows_div]
  revert hh
  fin_cases h <;> intro hh <;> first | rfl | exact absurd hh (by decide)

/-- The row `r` of a stack of four pieces read back at piece `g`. -/
theorem pay10_apply (V0 V1 V2 : Vec Ideal S1x128x128 .bf16) (c : Fin 384) (d : Fin 64) :
    k0_pay10 (F := Ideal) V0 V1 V2 (ix2 c d) = band V0 V1 V2 c (kcol 0 d) := by
  pointwise [k0_pay10]
  unfold band kcol
  split_ifs <;> (congr 2; try (apply Fin.ext; simp))

theorem pay26_apply (V0 V1 V2 : Vec Ideal S1x128x128 .bf16) (c : Fin 384) (d : Fin 64) :
    k0_pay26 (F := Ideal) V0 V1 V2 (ix2 c d) = band V0 V1 V2 c (kcol 1 d) := by
  pointwise [k0_pay26]
  unfold band kcol
  split_ifs <;> (congr 2; try (apply Fin.ext; simp))

theorem negInf_val : Ideal.ofBits FTy.f32 4286578688#32 = (⊥ : EReal) := by
  simp [Ideal.ofBits, Ideal.ieee]

/-- The first group's quotient, from its scores and sinks. -/
theorem pay21_apply (Vb : FVec Ideal S384x64 .bf16) (v42 : IVec S512x384 32) (v58 : IVec S512x384 1) (v59 : FVec Ideal S512x384 .f32)
    (v84 : IVec S512x1 32) (v114 : FVec Ideal S512x384 .f32) (v116 : FVec Ideal S512x1 .f32) (v120 : FVec Ideal S512x384 .f32)
    (v121 : IVec S512x1 32) (s0 s1 s2 s3 : EReal) (R : Fin 512) (d : Fin 64) :
    k0_pay21 (F := Ideal) Vb (k0_pay18 (F := Ideal) v42 v58 v59 v84 v114 v116 v120 v121 s0 s1 s2 s3)
        (k0_pay19 (F := Ideal) v42 v58 v59 v84 v114 v116 v120 v121 s0 s1 s2 s3) (k0_pay20 (F := Ideal) v42 v58 v59 v84 v114 v116 v120 v121 s0 s1 s2 s3) (ix2 R d)
      = attLate (fun c => k0_pay16 (F := Ideal) v42 v58 v59 v114 v120 (ix2 R c))
          (k0_pay15 (F := Ideal) v84 v116 v121 s0 s1 s2 s3 (ix2 R 0)) (fun c => Vb (ix2 c d)) := by
  unfold attLate mass top
  rw [← negInf_val]
  pointwise [k0_pay21, k0_pay20, k0_pay19, k0_pay18, k0_pay17]

/-- Reading eight 64-lane pieces laid side by side at a lane of piece `h`. -/
theorem lanes_pick {α : Type} (h : Fin 8) (d : Fin 64) (f0 f1 f2 f3 f4 f5 f6 f7 : Fin 64 → α) :
    (if h0 : (col h d).val < 64 then f0 ⟨(col h d).val, h0⟩
      else if h1 : (col h d).val - 64 < 64 then f1 ⟨(col h d).val - 64, h1⟩
      else if h2 : (col h d).val - 64 - 64 < 64 then f2 ⟨(col h d).val - 64 - 64, h2⟩
      else if h3 : (col h d).val - 64 - 64 - 64 < 64 then f3 ⟨(col h d).val - 64 - 64 - 64, h3⟩
      else if h4 : (col h d).val - 64 - 64 - 64 - 64 < 64 then f4 ⟨(col h d).val - 64 - 64 - 64 - 64, h4⟩
      else if h5 : (col h d).val - 64 - 64 - 64 - 64 - 64 < 64 then f5 ⟨(col h d).val - 64 - 64 - 64 - 64 - 64, h5⟩
      else if h6 : (col h d).val - 64 - 64 - 64 - 64 - 64 - 64 < 64 then f6 ⟨(col h d).val - 64 - 64 - 64 - 64 - 64 - 64, h6⟩
      else f7 ⟨(col h d).val - 64 - 64 - 64 - 64 - 64 - 64 - 64, by omega⟩)
    = match h with | 0 => f0 d | 1 => f1 d | 2 => f2 d | 3 => f3 d | 4 => f4 d | 5 => f5 d | 6 => f6 d | 7 => f7 d := by
  have hd := d.isLt
  match h with
  | 0 =>
    have e : (col 0 d).val = 0 + d.val := by simp [col]
    rw [dif_pos (show (col 0 d).val < 64 by omega)]
    exact congrArg f0 (Fin.ext (show (col 0 d).val = d.val by omega))
  | 1 =>
    have e : (col 1 d).val = 64 + d.val := by simp [col]
    rw [dif_neg (show ¬ ((col 1 d).val < 64) by omega)]
    rw [dif_pos (show (col 1 d).val - 64 < 64 by omega)]
    exact congrArg f1 (Fin.ext (show (col 1 d).val - 64 = d.val by omega))
  | 2 =>
    have e : (col 2 d).val = 128 + d.val := by simp [col]
    rw [dif_neg (show ¬ ((col 2 d).val < 64) by omega)]
    rw [dif_neg (show ¬ ((col 2 d).val - 64 < 64) by omega)]
    rw [dif_pos (show (col 2 d).val - 64 - 64 < 64 by omega)]
    exact congrArg f2 (Fin.ext (show (col 2 d).val - 64 - 64 = d.val by omega))
  | 3 =>
    have e : (col 3 d).val = 192 + d.val := by simp [col]
    rw [dif_neg (show ¬ ((col 3 d).val < 64) by omega)]
    rw [dif_neg (show ¬ ((col 3 d).val - 64 < 64) by omega)]
    rw [dif_neg (show ¬ ((col 3 d).val - 64 - 64 < 64) by omega)]
    rw [dif_pos (show (col 3 d).val - 64 - 64 - 64 < 64 by omega)]
    exact congrArg f3 (Fin.ext (show (col 3 d).val - 64 - 64 - 64 = d.val by omega))
  | 4 =>
    have e : (col 4 d).val = 256 + d.val := by simp [col]
    rw [dif_neg (show ¬ ((col 4 d).val < 64) by omega)]
    rw [dif_neg (show ¬ ((col 4 d).val - 64 < 64) by omega)]
    rw [dif_neg (show ¬ ((col 4 d).val - 64 - 64 < 64) by omega)]
    rw [dif_neg (show ¬ ((col 4 d).val - 64 - 64 - 64 < 64) by omega)]
    rw [dif_pos (show (col 4 d).val - 64 - 64 - 64 - 64 < 64 by omega)]
    exact congrArg f4 (Fin.ext (show (col 4 d).val - 64 - 64 - 64 - 64 = d.val by omega))
  | 5 =>
    have e : (col 5 d).val = 320 + d.val := by simp [col]
    rw [dif_neg (show ¬ ((col 5 d).val < 64) by omega)]
    rw [dif_neg (show ¬ ((col 5 d).val - 64 < 64) by omega)]
    rw [dif_neg (show ¬ ((col 5 d).val - 64 - 64 < 64) by omega)]
    rw [dif_neg (show ¬ ((col 5 d).val - 64 - 64 - 64 < 64) by omega)]
    rw [dif_neg (show ¬ ((col 5 d).val - 64 - 64 - 64 - 64 < 64) by omega)]
    rw [dif_pos (show (col 5 d).val - 64 - 64 - 64 - 64 - 64 < 64 by omega)]
    exact congrArg f5 (Fin.ext (show (col 5 d).val - 64 - 64 - 64 - 64 - 64 = d.val by omega))
  | 6 =>
    have e : (col 6 d).val = 384 + d.val := by simp [col]
    rw [dif_neg (show ¬ ((col 6 d).val < 64) by omega)]
    rw [dif_neg (show ¬ ((col 6 d).val - 64 < 64) by omega)]
    rw [dif_neg (show ¬ ((col 6 d).val - 64 - 64 < 64) by omega)]
    rw [dif_neg (show ¬ ((col 6 d).val - 64 - 64 - 64 < 64) by omega)]
    rw [dif_neg (show ¬ ((col 6 d).val - 64 - 64 - 64 - 64 < 64) by omega)]
    rw [dif_neg (show ¬ ((col 6 d).val - 64 - 64 - 64 - 64 - 64 < 64) by omega)]
    rw [dif_pos (show (col 6 d).val - 64 - 64 - 64 - 64 - 64 - 64 < 64 by omega)]
    exact congrArg f6 (Fin.ext (show (col 6 d).val - 64 - 64 - 64 - 64 - 64 - 64 = d.val by omega))
  | 7 =>
    have e : (col 7 d).val = 448 + d.val := by simp [col]
    rw [dif_neg (show ¬ ((col 7 d).val < 64) by omega)]
    rw [dif_neg (show ¬ ((col 7 d).val - 64 < 64) by omega)]
    rw [dif_neg (show ¬ ((col 7 d).val - 64 - 64 < 64) by omega)]
    rw [dif_neg (show ¬ ((col 7 d).val - 64 - 64 - 64 < 64) by omega)]
    rw [dif_neg (show ¬ ((col 7 d).val - 64 - 64 - 64 - 64 < 64) by omega)]
    rw [dif_neg (show ¬ ((col 7 d).val - 64 - 64 - 64 - 64 - 64 < 64) by omega)]
    rw [dif_neg (show ¬ ((col 7 d).val - 64 - 64 - 64 - 64 - 64 - 64 < 64) by omega)]
    exact congrArg f7 (Fin.ext (show (col 7 d).val - 64 - 64 - 64 - 64 - 64 - 64 - 64 = d.val by omega))

/-- The stored block at a lane of query head `h`. -/
theorem pay1_apply (A B C D : FVec Ideal S128x64 .f32) (Vb : FVec Ideal S384x64 .bf16) (s : FVec Ideal S512x1 .f32)
    (l : FVec Ideal S512x384 .f32) (h : Fin 8) (r : Fin 128) (d : Fin 64) :
    k0_pay1 (F := Ideal) A B C D Vb s l (ix3 0 r (col h d))
      = match h with
        | 0 => A (ix2 r d) | 1 => B (ix2 r d) | 2 => C (ix2 r d) | 3 => D (ix2 r d)
        | 4 | 5 | 6 | 7 => attLate (fun c => l (ix2 (rows (gOf h) r) c)) (s (ix2 (rows (gOf h) r) 0)) (fun c => Vb (ix2 c d)) := by
  pointwise [k0_pay1]
  simp only [negInf_val]
  refine (lanes_pick h d (fun j => A (ix2 r j)) (fun j => B (ix2 r j)) (fun j => C (ix2 r j)) (fun j => D (ix2 r j))
    (fun j => attLate (fun c => l (ix2 (rows 0 r) c)) (s (ix2 (rows 0 r) 0)) (fun c => Vb (ix2 c j)))
    (fun j => attLate (fun c => l (ix2 (rows 1 r) c)) (s (ix2 (rows 1 r) 0)) (fun c => Vb (ix2 c j)))
    (fun j => attLate (fun c => l (ix2 (rows 2 r) c)) (s (ix2 (rows 2 r) 0)) (fun c => Vb (ix2 c j)))
    (fun j => attLate (fun c => l (ix2 (rows 3 r) c)) (s (ix2 (rows 3 r) 0)) (fun c => Vb (ix2 c j)))).trans ?_
  revert h
  intro h
  fin_cases h <;> rfl

end Cert.Attn

end
-- ==== Proof.AttnOut.lean ====
/- The attention kernel's output block at every grid point, as the attention of the point's input blocks. -/
module

public import proofs.«01_k».proof.Proof.AttnBlock
public import Idealize.ShloMosaic.Lib.Pipeline.Value

@[expose] public section

set_option maxRecDepth 16384

noncomputable section

namespace Cert.Attn

open Idealize.ShloMosaic Cert.KernelIdeal Cert.KernelIdeal.Gen Idealize.ShloMosaic.TcCoe Idealize.SL.Sem

variable (m : (ℓ : Loc nD τ sig) → Buf (Elt Ideal) ℓ) (c : Dev nD) (t : Fin cfg0.N)

theorem zero3 : (![0, 0, 0] : Fin 3 → Nat) = fun _ => 0 := by
  funext i
  fin_cases i <;> rfl

/-- The attention of one query head's row over a block's band of keys and values. -/
def headOf (n : Fin 16) (s : Vec Ideal S8 .f32) (Q : Vec Ideal S1x128x512 .bf16) (K0 K1 K2 V0 V1 V2 : Vec Ideal S1x128x128 .bf16)
    (r : Fin 128) (h : Fin 8) (d : Fin 64) : EReal :=
  attLate (fun b => score h n r b (fun e => Q (ix3 0 r (col h e))) (fun e => band K0 K1 K2 b (kcol (khOf h) e)))
    (s (ix1 h)) (fun b => band V0 V1 V2 b (kcol (khOf h) d))

/-- A one-word load from the sinks is the sink. -/
theorem sink_word (s : Vec Ideal S8 .f32) (k : Nat) (hk : k < 8) (inb : ∀ a, (![k] : Fin 1 → Nat) a + (![1] : Fin 1 → Nat) a ≤ S8.size a)
    (p) : View.ld s (Rect.unit (s := S8) ![k] ![1] inb) (Shape.Idx.first p) = s (ix1 ⟨k, hk⟩) := by
  unfold View.ld
  congr 1
  funext a
  fin_cases a
  rfl

section
variable (n : Fin 16) (s : Vec Ideal S8 .f32) (Q : Vec Ideal S1x128x512 .bf16) (K0 K1 K2 V0 V1 V2 : Vec Ideal S1x128x128 .bf16)

/-- The rows of the first four heads. -/
theorem first_group (r : Fin 128) (h : Fin 8) (hh : khOf h = 0) (d : Fin 64) :
    k0_pay21 (F := Ideal) (k0_pay10 V0 V1 V2)
        (k0_pay18 k0_pay3 (k0_pay6 (BitVec.ofNat 32 n.val) k0_pay2 lanes k0_pay4) (k0_pay7 k0_pay2 lanes k0_pay4) k0_pay8
          (k0_pay11 (k0_pay9 Q) K0 K1 K2) k0_pay12 (k0_pay13 k0_pay3) k0_pay14 (s (ix1 0)) (s (ix1 1)) (s (ix1 2)) (s (ix1 3)))
        (k0_pay19 k0_pay3 (k0_pay6 (BitVec.ofNat 32 n.val) k0_pay2 lanes k0_pay4) (k0_pay7 k0_pay2 lanes k0_pay4) k0_pay8
          (k0_pay11 (k0_pay9 Q) K0 K1 K2) k0_pay12 (k0_pay13 k0_pay3) k0_pay14 (s (ix1 0)) (s (ix1 1)) (s (ix1 2)) (s (ix1 3)))
        (k0_pay20 k0_pay3 (k0_pay6 (BitVec.ofNat 32 n.val) k0_pay2 lanes k0_pay4) (k0_pay7 k0_pay2 lanes k0_pay4) k0_pay8
          (k0_pay11 (k0_pay9 Q) K0 K1 K2) k0_pay12 (k0_pay13 k0_pay3) k0_pay14 (s (ix1 0)) (s (ix1 1)) (s (ix1 2)) (s (ix1 3)))
        (ix2 (rows (gOf h) r) d)
      = headOf n s Q K0 K1 K2 V0 V1 V2 r h d := by
  rw [pay21_apply, pay15_apply (fun k => s (ix1 k)) h hh]
  unfold headOf
  rw [hh]
  congr 1
  · funext b
    rw [pay16_apply _ _ _ h hh, pay6_apply, pay7_apply, pay11_apply Q K0 K1 K2 h hh]
    rfl
  · funext b
    rw [pay10_apply]

/-- The rows of the last four heads. -/
theorem second_group (r : Fin 128) (h : Fin 8) (hh : khOf h = 1) (d : Fin 64) :
    attLate
        (fun b => k0_pay29 (F := Ideal) k0_pay3 (k0_pay6 (BitVec.ofNat 32 n.val) k0_pay2 lanes k0_pay4)
          (k0_pay7 k0_pay2 lanes k0_pay4) (k0_pay27 (k0_pay9 Q) K0 K1 K2) (FloatOps.ofBits .f32 0#32) (ix2 (rows (gOf h) r) b))
        (k0_pay28 (F := Ideal) k0_pay8 (s (ix1 4)) (s (ix1 5)) (s (ix1 6)) (s (ix1 7)) (ix2 (rows (gOf h) r) 0))
        (fun b => k0_pay26 (F := Ideal) V0 V1 V2 (ix2 b d))
      = headOf n s Q K0 K1 K2 V0 V1 V2 r h d := by
  rw [pay28_apply (fun k => s (ix1 k)) h hh]
  unfold headOf
  rw [hh]
  congr 1
  · funext b
    rw [pay29_apply _ _ _ h hh, pay6_apply, pay7_apply, pay27_apply Q K0 K1 K2 h hh]
    rfl
  · funext b
    rw [pay26_apply]

/-- The four slices of the first group's quotient. -/
theorem pay22_apply (Vb : FVec Ideal S384x64 .bf16) (p : FVec Ideal S512x384 .f32) (a b : FVec Ideal S512x1 .f32) (r : Fin 128) (d : Fin 64) :
    k0_pay22 (F := Ideal) Vb p a b (ix2 r d) = k0_pay21 (F := Ideal) Vb p a b (ix2 (rows 0 r) d) := by
  pointwise [k0_pay22]
  rfl
theorem pay23_apply (Vb : FVec Ideal S384x64 .bf16) (p : FVec Ideal S512x384 .f32) (a b : FVec Ideal S512x1 .f32) (r : Fin 128) (d : Fin 64) :
    k0_pay23 (F := Ideal) Vb p a b (ix2 r d) = k0_pay21 (F := Ideal) Vb p a b (ix2 (rows 1 r) d) := by
  pointwise [k0_pay23]
  rfl
theorem pay24_apply (Vb : FVec Ideal S384x64 .bf16) (p : FVec Ideal S512x384 .f32) (a b : FVec Ideal S512x1 .f32) (r : Fin 128) (d : Fin 64) :
    k0_pay24 (F := Ideal) Vb p a b (ix2 r d) = k0_pay21 (F := Ideal) Vb p a b (ix2 (rows 2 r) d) := by
  pointwise [k0_pay24]
  rfl
theorem pay25_apply (Vb : FVec Ideal S384x64 .bf16) (p : FVec Ideal S512x384 .f32) (a b : FVec Ideal S512x1 .f32) (r : Fin 128) (d : Fin 64) :
    k0_pay25 (F := Ideal) Vb p a b (ix2 r d) = k0_pay21 (F := Ideal) Vb p a b (ix2 (rows 3 r) d) := by
  pointwise [k0_pay25]
  rfl

end

/-- The query block a grid point works on. -/
def qblock (t : Fin cfg0.N) : Fin 16 := ⟨((grid0.coords t) 1).val, ((grid0.coords t) 1).isLt⟩

/-- The input blocks of a grid point: the sinks, the queries, three key blocks, three value blocks. -/
def inS : Vec Ideal S8 .f32 := iblk m c 0 t
def inQ : Vec Ideal S1x128x512 .bf16 := iblk m c 1 t
def inK0 : Vec Ideal S1x128x128 .bf16 := iblk m c 2 t
def inK1 : Vec Ideal S1x128x128 .bf16 := iblk m c 3 t
def inK2 : Vec Ideal S1x128x128 .bf16 := iblk m c 4 t
def inV0 : Vec Ideal S1x128x128 .bf16 := iblk m c 5 t
def inV1 : Vec Ideal S1x128x128 .bf16 := iblk m c 6 t
def inV2 : Vec Ideal S1x128x128 .bf16 := iblk m c 7 t

/-- The block point `t` leaves is the attention of its input blocks, head by head. -/
theorem out_apply (r : Fin 128) (h : Fin 8) (d : Fin 64) :
    outsAt0 (F := Ideal) m c t (ix3 0 r (col h d))
      = headOf (qblock t) (inS m c t) (inQ m c t) (inK0 m c t) (inK1 m c t) (inK2 m c t) (inV0 m c t) (inV1 m c t) (inV2 m c t) r h d := by
  unfold outsAt0 out0_A_8
  rw [View.read_writes_eq_canon _ _ _ (cover0_A_8 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  rw [show iblk m c 0 t = inS m c t from rfl]
  rw [show iblk m c 1 t = inQ m c t from rfl]
  rw [show iblk m c 2 t = inK0 m c t from rfl]
  rw [show iblk m c 3 t = inK1 m c t from rfl]
  rw [show iblk m c 4 t = inK2 m c t from rfl]
  rw [show iblk m c 5 t = inV0 m c t from rfl]
  rw [show iblk m c 6 t = inV1 m c t from rfl]
  rw [show iblk m c 7 t = inV2 m c t from rfl]
  rw [View.canon_unit_zero zero3]
  simp only [View.ld_unit_zero (S := S1x128x512) zero3, View.ld_unit_zero (S := S1x128x128) zero3]
  rw [sink_word _ 0 (by decide), sink_word _ 1 (by decide), sink_word _ 2 (by decide), sink_word _ 3 (by decide), sink_word _ 4 (by decide), sink_word _ 5 (by decide), sink_word _ 6 (by decide), sink_word _ 7 (by decide)]
  rw [pay1_apply]
  match h with
  | 0 => exact (pay22_apply _ _ _ _ r d).trans (first_group (qblock t) _ _ _ _ _ _ _ _ r 0 rfl d)
  | 1 => exact (pay23_apply _ _ _ _ r d).trans (first_group (qblock t) _ _ _ _ _ _ _ _ r 1 rfl d)
  | 2 => exact (pay24_apply _ _ _ _ r d).trans (first_group (qblock t) _ _ _ _ _ _ _ _ r 2 rfl d)
  | 3 => exact (pay25_apply _ _ _ _ r d).trans (first_group (qblock t) _ _ _ _ _ _ _ _ r 3 rfl d)
  | 4 => exact second_group (qblock t) _ _ _ _ _ _ _ _ r 4 rfl d
  | 5 => exact second_group (qblock t) _ _ _ _ _ _ _ _ r 5 rfl d
  | 6 => exact second_group (qblock t) _ _ _ _ _ _ _ _ r 6 rfl d
  | 7 => exact second_group (qblock t) _ _ _ _ _ _ _ _ r 7 rfl d

end Cert.Attn

end
-- ==== Proof.AttnArray.lean ====
/- The attention kernel's output array after the run, element by element. -/
module

public import proofs.«01_k».proof.Proof.AttnOut
public import Idealize.ShloMosaic.Lib.Pipeline.ValueKit
public import Idealize.ShloMosaic.Lib.Claim

@[expose] public section

set_option maxRecDepth 16384

noncomputable section

namespace Cert.Attn

open Idealize.ShloMosaic Cert.KernelIdeal Cert.KernelIdeal.Gen Idealize.ShloMosaic.TcCoe Idealize.SL.Sem

/-- Block `n` of 128 rows of batch `b`, as a one-batch block. -/
def rowBlock {w : Nat} (x : Vec Ideal ⟨3, ![16, 2048, w]⟩ .bf16) (b n : Fin 16) : Vec Ideal ⟨3, ![1, 128, w]⟩ .bf16 :=
  fun i => x (ix3 b ⟨n.val * 128 + (i 1).val, by have h : (i 1).val < 128 := (i 1).isLt; omega⟩ (i 2))

/-- The block before `n`, or block 0. -/
def before (n : Fin 16) : Fin 16 := ⟨n.val - 1, by omega⟩
/-- The block after `n`, or block 15. -/
def after (n : Fin 16) : Fin 16 := ⟨min (n.val + 1) 15, by omega⟩

/-- The kernel's attention of query row `r` of block `n` of batch `b`, head `h`, coordinate `d`. -/
def kernelAt (q : Vec Ideal S16x2048x512 .bf16) (k v : Vec Ideal S16x2048x128 .bf16) (s : Vec Ideal S1x8 .f32)
    (b n : Fin 16) (r : Fin 128) (h : Fin 8) (d : Fin 64) : EReal :=
  headOf n (fun i => s (ix2 0 (i 0))) (rowBlock q b n) (rowBlock k b (before n)) (rowBlock k b n) (rowBlock k b (after n))
    (rowBlock v b (before n)) (rowBlock v b n) (rowBlock v b (after n)) r h d

/-- The array of all of them. -/
def kernelArr (q : Vec Ideal S16x2048x512 .bf16) (k v : Vec Ideal S16x2048x128 .bf16) (s : Vec Ideal S1x8 .f32) :
    Vec Ideal S16x2048x512 .bf16 := fun i =>
  kernelAt q k v s (i 0) ⟨(i 1).val / 128, by have h : (i 1).val < 2048 := (i 1).isLt; omega⟩ ⟨(i 1).val % 128, by omega⟩
    ⟨(i 2).val / 64, by have h : (i 2).val < 512 := (i 2).isLt; omega⟩ ⟨(i 2).val % 64, by omega⟩

variable (m : (ℓ : Loc nD τ sig) → Buf (Elt Ideal) ℓ) (c : Dev nD) (t : Fin cfg0.N)

/-- The batch a grid point works on. -/
def batch (t : Fin cfg0.N) : Fin 16 := ⟨((grid0.coords t) 0).val, ((grid0.coords t) 0).isLt⟩

/-- The windows' block indices at a grid point. -/
theorem idx_at : ∀ t : Fin cfg0.N,
    win0_0.index t = ![0]
    ∧ win0_1.index t = ![(batch t).val, (qblock t).val, 0]
    ∧ win0_2.index t = ![(batch t).val, (before (qblock t)).val, 0]
    ∧ win0_3.index t = ![(batch t).val, (qblock t).val, 0]
    ∧ win0_4.index t = ![(batch t).val, (after (qblock t)).val, 0]
    ∧ win0_5.index t = ![(batch t).val, (before (qblock t)).val, 0]
    ∧ win0_6.index t = ![(batch t).val, (qblock t).val, 0]
    ∧ win0_7.index t = ![(batch t).val, (after (qblock t)).val, 0]
    ∧ win0_8.index t = ![(batch t).val, (qblock t).val, 0] :=
  (by decide +kernel : ∀ t : Fin grid0.N, _)

theorem inS_eq : inS m c t = fun i => m ((c : Thread nD τ).loc main_arg3) (ix2 0 (i 0)) := by
  obtain ⟨e, -⟩ := idx_at t
  funext y
  unfold inS iblk
  blk_simp [e]
  entry_read
  have hy : ((View.whole main_v0).slice (win0_0.rect t)).emb y = ix1 (y 0) := by blk_ext [e]
  rw [hy]
  generalize y 0 = k
  pointwise

theorem inQ_eq : inQ m c t = rowBlock (m ((c : Thread nD τ).loc main_arg0)) (batch t) (qblock t) := by
  obtain ⟨-, e, -⟩ := idx_at t
  funext y
  unfold inQ rowBlock
  blk_ext [iblk, V_main_arg0, e]

theorem inK0_eq : inK0 m c t = rowBlock (m ((c : Thread nD τ).loc main_arg1)) (batch t) (before (qblock t)) := by
  obtain ⟨-, -, e, -⟩ := idx_at t
  funext y
  unfold inK0 rowBlock
  blk_ext [iblk, V_main_arg1, e]

theorem inK1_eq : inK1 m c t = rowBlock (m ((c : Thread nD τ).loc main_arg1)) (batch t) (qblock t) := by
  obtain ⟨-, -, -, e, -⟩ := idx_at t
  funext y
  unfold inK1 rowBlock
  blk_ext [iblk, V_main_arg1, e]

theorem inK2_eq : inK2 m c t = rowBlock (m ((c : Thread nD τ).loc main_arg1)) (batch t) (after (qblock t)) := by
  obtain ⟨-, -, -, -, e, -⟩ := idx_at t
  funext y
  unfold inK2 rowBlock
  blk_ext [iblk, V_main_arg1, e]

theorem inV0_eq : inV0 m c t = rowBlock (m ((c : Thread nD τ).loc main_arg2)) (batch t) (before (qblock t)) := by
  obtain ⟨-, -, -, -, -, e, -⟩ := idx_at t
  funext y
  unfold inV0 rowBlock
  blk_ext [iblk, V_main_arg2, e]

theorem inV1_eq : inV1 m c t = rowBlock (m ((c : Thread nD τ).loc main_arg2)) (batch t) (qblock t) := by
  obtain ⟨-, -, -, -, -, -, e, -⟩ := idx_at t
  funext y
  unfold inV1 rowBlock
  blk_ext [iblk, V_main_arg2, e]

theorem inV2_eq : inV2 m c t = rowBlock (m ((c : Thread nD τ).loc main_arg2)) (batch t) (after (qblock t)) := by
  obtain ⟨-, -, -, -, -, -, -, e, -⟩ := idx_at t
  funext y
  unfold inV2 rowBlock
  blk_ext [iblk, V_main_arg2, e]

/-- The block a point leaves, in terms of the argument arrays. -/
theorem out_at (r : Fin 128) (h : Fin 8) (d : Fin 64) :
    outsAt0 (F := Ideal) m c t (ix3 0 r (col h d))
      = kernelAt (m ((c : Thread nD τ).loc main_arg0)) (m ((c : Thread nD τ).loc main_arg1)) (m ((c : Thread nD τ).loc main_arg2))
          (m ((c : Thread nD τ).loc main_arg3)) (batch t) (qblock t) r h d := by
  rw [out_apply, inS_eq, inQ_eq, inK0_eq, inK1_eq, inK2_eq, inV0_eq, inV1_eq, inV2_eq]
  rfl

/-- Dividing a row number by the block's length gives the block and the row in it. -/
theorem split128 (q r : Nat) (hr : r < 128) : (q * 128 + r) / 128 = q ∧ (q * 128 + r) % 128 = r := by omega

/-- After the run the output array holds the attention of the argument arrays at every element. -/
theorem array_eq : (dats m 0 c).arrAt 8 cfg0.N
    = kernelArr (m ((c : Thread nD τ).loc main_arg0)) (m ((c : Thread nD τ).loc main_arg1)) (m ((c : Thread nD τ).loc main_arg2))
          (m ((c : Thread nD τ).loc main_arg3)) := by
  refine (dats m 0 c).arrAt_eq_of_covers 8 _ (by decide +kernel) fun t hf y => ?_
  obtain ⟨-, -, -, -, -, -, -, -, e⟩ := idx_at t
  blk_simp
  rw [after0_8]
  have y0 : (y 0).val < 1 := (y 0).isLt
  have y1 : (y 1).val < 128 := (y 1).isLt
  have y2 : (y 2).val < 512 := (y 2).isLt
  have hy : y = ix3 (0 : Fin 1) (⟨(y 1).val, y1⟩ : Fin 128)
      (col ⟨(y 2).val / 64, by omega⟩ ⟨(y 2).val % 64, by omega⟩) := by
    funext a
    fin_cases a
    · exact Fin.ext (by show (y 0).val = 0; omega)
    · rfl
    · exact Fin.ext (by show (y 2).val = (y 2).val / 64 * 64 + (y 2).val % 64; omega)
  have e0 : (((win0_8.blk t).view.emb y) 0 : Nat) = (batch t).val := by blk_simp [e]
  have e1 : (((win0_8.blk t).view.emb y) 1 : Nat) = (qblock t).val * 128 + (y 1).val := by blk_simp [e]
  have e2 : (((win0_8.blk t).view.emb y) 2 : Nat) = (y 2).val := by blk_simp [e]
  refine (congrArg (outsAt0 m c t) hy).trans ((out_at m c t _ _ _).trans ?_)
  unfold kernelArr
  congr 1
  · exact Fin.ext e0.symm
  · exact Fin.ext (by show _ = _ / 128; rw [e1]; exact (split128 _ _ y1).1.symm)
  · exact Fin.ext (by show _ = _ % 128; rw [e1]; exact (split128 _ _ y1).2.symm)
  · exact Fin.ext (by show _ = _ / 64; rw [e2])
  · exact Fin.ext (by show _ = _ % 64; rw [e2])

end Cert.Attn

end
-- ==== Proof.AttnPre.lean ====
/- What the attention's precondition says: the queries, keys and sinks are numbers; and that then no score is plus infinity. -/
module

public import proofs.«01_k».proof.Pre_finite
public import proofs.«01_k».proof.Proof.AttnSpec
public import Idealize.ShloMosaic.Lib.ReduceAll

@[expose] public section

noncomputable section

namespace Cert.Attn

open Idealize.ShloMosaic

/-- The shape relations of the precondition's operations. -/
instance preFacts : Cert.Pre_finite.Facts where
  bitsLt_bf16_f32 := by decide
  bcast_S_S16x2048x512 := by decide
  reducesTo_S16x2048x512_S_d0_1_2 := by decide
  h_S_ := by decide
  bcast_S_S16x2048x128 := by decide
  reducesTo_S16x2048x128_S_d0_1_2 := by decide
  bcast_S_S1x8 := by decide
  reducesTo_S1x8_S_d0_1 := by decide

/-- A number: neither infinity. -/
def IsNum (x : EReal) : Prop := x ≠ ⊤ ∧ x ≠ ⊥

/-- The f32 word of plus infinity. -/
theorem plus_inf : Ideal.ofBits FTy.f32 0x7F800000#32 = (⊤ : EReal) := by
  simp [Ideal.ofBits, Ideal.ieee]

theorem isNum_of_cmp (x : EReal) (h : Ideal.cmp .olt (max x (-x)) (Ideal.ofBits FTy.f32 0x7F800000#32) = 1#1) : IsNum x := by
  rw [plus_inf] at h
  constructor
  · rintro rfl
    simp [Ideal.cmp] at h
  · rintro rfl
    simp [Ideal.cmp] at h

/-- The precondition read element by element. -/
theorem finite_read (q : Vec Ideal ⟨3, ![16, 2048, 512]⟩ .bf16) (k v : Vec Ideal ⟨3, ![16, 2048, 128]⟩ .bf16) (s : Vec Ideal ⟨2, ![1, 8]⟩ .f32)
    (h : Cert.Pre_finite.fn (F := Ideal) q k v s = fun _ => 1#1) :
    (∀ i, IsNum (q i)) ∧ (∀ i, IsNum (k i)) ∧ ∀ i, IsNum (s i) := by
  have e := congrFun h ix0
  dsimp only [Cert.Pre_finite.fn] at e
  obtain ⟨e12, e3⟩ := IntOp.andi_eq_one.1 e
  obtain ⟨e1, e2⟩ := IntOp.andi_eq_one.1 e12
  haveI : Subsingleton Cert.Pre_finite.S_.Idx := ⟨fun a b => funext fun i => i.elim0⟩
  exact ⟨fun i => isNum_of_cmp _ (Host.reduce_andi_all _ _ _ _ _ e1 i), fun i => isNum_of_cmp _ (Host.reduce_andi_all _ _ _ _ _ e2 i),
    fun i => isNum_of_cmp _ (Host.reduce_andi_all _ _ _ _ _ e3 i)⟩

theorem IsNum.coe {x : EReal} (h : IsNum x) : ∃ r : ℝ, x = r := ⟨x.toReal, (EReal.coe_toReal h.1 h.2).symm⟩

theorem isNum_coe (r : ℝ) : IsNum (r : EReal) := ⟨EReal.coe_ne_top r, EReal.coe_ne_bot r⟩

theorem IsNum.mul {x y : EReal} (hx : IsNum x) (hy : IsNum y) : IsNum (x * y) := by
  obtain ⟨a, rfl⟩ := hx.coe
  obtain ⟨b, rfl⟩ := hy.coe
  rw [← EReal.coe_mul]
  exact isNum_coe _

theorem IsNum.sub {x y : EReal} (hx : IsNum x) (hy : IsNum y) : IsNum (x - y) := by
  obtain ⟨a, rfl⟩ := hx.coe
  obtain ⟨b, rfl⟩ := hy.coe
  rw [← EReal.coe_sub]
  exact isNum_coe _

theorem IsNum.sum {n : ℕ} {f : Fin n → EReal} (h : ∀ i, IsNum (f i)) : IsNum (∑ i, f i) := by
  refine Finset.sum_induction f IsNum (fun a b ha hb => ?_) (isNum_coe 0) fun i _ => h i
  obtain ⟨x, rfl⟩ := ha.coe
  obtain ⟨y, rfl⟩ := hb.coe
  rw [← EReal.coe_add]
  exact isNum_coe _

theorem isNum_scale : IsNum (Ideal.ofBits .f32 0x3E000000#32) := by
  refine (show ∃ r : ℝ, Ideal.ofBits .f32 0x3E000000#32 = r from ?_).elim fun r h => h ▸ isNum_coe r
  simp [Ideal.ofBits, Ideal.ieee, -EReal.coe_mul]

theorem isNum_slope (h : Fin 8) : IsNum (Ideal.ofBits .f32 (slopeWord h)) := by
  refine (show ∃ r : ℝ, Ideal.ofBits .f32 (slopeWord h) = r from ?_).elim fun r h => h ▸ isNum_coe r
  fin_cases h <;> simp [slopeWord, Ideal.ofBits, Ideal.ieee, -EReal.coe_mul]

theorem isNum_word (w : BitVec 32) : IsNum (FloatOps.sitofp (F := Ideal) .f32 w) := by
  simp [FloatOps.sitofp]
  exact isNum_coe _

/-- A score of numbers is not plus infinity. -/
theorem score_ne_top (h : Fin 8) (n : Fin 16) (r : Fin 128) (c : Fin 384) {q k : Fin 64 → EReal} (hq : ∀ d, IsNum (q d))
    (hk : ∀ d, IsNum (k d)) : score h n r c q k ≠ ⊤ := by
  unfold score Scalar.select
  split
  · exact (((IsNum.sum fun d => (hq d).mul (hk d)).mul isNum_scale).sub ((isNum_slope h).mul (isNum_word _))).1
  · exact bot_ne_top

/-- Outside the sequence the score is minus infinity, whatever the key. -/
theorem score_outside (h : Fin 8) (n : Fin 16) (r : Fin 128) (c : Fin 384) (q k : Fin 64 → EReal) (ho : inside n c = 0#1) :
    score h n r c q k = ⊥ := by
  unfold score inBand
  rw [ho]
  have e : ∀ x : BitVec 1, IntOp.andi x 0#1 = 0#1 := by decide
  rw [e]
  rfl

/-- A band position lies outside the sequence exactly where its place there is not one of the 2048. -/
theorem inside_word : ∀ (n : Fin 16) (c : Fin 384), inside n c = if 128 ≤ n.val * 128 + c.val ∧ n.val * 128 + c.val - 128 < 2048 then 1#1 else 0#1 := by
  decide +kernel

end Cert.Attn

end
-- ==== Proof.AttnPad.lean ====
/- The kernel's attention of one element is the reference's form over the zero-padded sequence, for inputs that are numbers. -/
module

public import proofs.«01_k».proof.Proof.AttnArray
public import proofs.«01_k».proof.Proof.AttnPre

@[expose] public section

set_option maxRecDepth 16384

noncomputable section

namespace Cert.Attn

open Idealize.ShloMosaic

/-- Lane `j` of row `p` of the sequence with 128 zero rows before and after it. -/
def padded (x : Vec Ideal ⟨3, ![16, 2048, 128]⟩ .bf16) (b : Fin 16) (p : Nat) (j : Fin 128) : EReal :=
  if h : 128 ≤ p ∧ p - 128 < 2048 then x (ix3 b ⟨p - 128, h.2⟩ j) else 0

/-- The query head of member `g` of group `kh`. -/
def headAt (kh : Fin 2) (g : Fin 4) : Fin 8 := ⟨kh.val * 4 + g.val, by omega⟩

/-- The lane of coordinate `d` of member `g` of group `kh`. -/
def laneAt (kh : Fin 2) (g : Fin 4) (d : Fin 64) : Fin 512 := ⟨kh.val * 256 + g.val * 64 + d.val, by omega⟩

/-- The lane of coordinate `d` of key/value head `kh`. -/
def keyLane (kh : Fin 2) (d : Fin 64) : Fin 128 := ⟨kh.val * 64 + d.val, by omega⟩

/-- Row `r` of block `n` as a row of the sequence. -/
def seqRow (n : Fin 16) (r : Fin 128) : Fin 2048 := ⟨n.val * 128 + r.val, by omega⟩

/-- The scores of one query row over the padded sequence. -/
def refScores (q : Vec Ideal ⟨3, ![16, 2048, 512]⟩ .bf16) (k : Vec Ideal ⟨3, ![16, 2048, 128]⟩ .bf16) (b n : Fin 16) (kh : Fin 2)
    (g : Fin 4) (r : Fin 128) : Fin 384 → EReal := fun c =>
  score (headAt kh g) n r c (fun d => q (ix3 b (seqRow n r) (laneAt kh g d)))
    (fun d => padded k b (n.val * 128 + c.val) (keyLane kh d))

/-- Padding numbers gives numbers. -/
theorem padded_num {x : Vec Ideal ⟨3, ![16, 2048, 128]⟩ .bf16} (hx : ∀ i, IsNum (x i)) (b : Fin 16) (p : Nat) (j : Fin 128) :
    IsNum (padded x b p j) := by
  unfold padded
  split
  · exact hx _
  · exact isNum_coe 0

/-- Inside the sequence the three neighbouring blocks hold the padded sequence. -/
theorem band_eq_padded (x : Vec Ideal ⟨3, ![16, 2048, 128]⟩ .bf16) (b n : Fin 16) (c : Fin 384) (j : Fin 128)
    (h : 128 ≤ n.val * 128 + c.val ∧ n.val * 128 + c.val - 128 < 2048) :
    band (rowBlock x b (before n)) (rowBlock x b n) (rowBlock x b (after n)) c j = padded x b (n.val * 128 + c.val) j := by
  have hn := n.isLt
  have hc := c.isLt
  have key : ∀ (p p' : Fin 2048), p.val = p'.val → x (ix3 b p j) = x (ix3 b p' j) := fun p p' e => by rw [Fin.ext e]
  unfold band padded rowBlock
  rw [dif_pos h]
  split_ifs with h1 h2
  · exact key _ _ (by show (n.val - 1) * 128 + c.val = n.val * 128 + c.val - 128; omega)
  · exact key _ _ (by show n.val * 128 + (c.val - 128) = n.val * 128 + c.val - 128; omega)
  · exact key _ _ (by show (min (n.val + 1) 15) * 128 + (c.val - 128 - 128) = n.val * 128 + c.val - 128; omega)

variable (q : Vec Ideal ⟨3, ![16, 2048, 512]⟩ .bf16) (k v : Vec Ideal ⟨3, ![16, 2048, 128]⟩ .bf16) (s : Vec Ideal ⟨2, ![1, 8]⟩ .f32)

theorem khOf_headAt (kh : Fin 2) (g : Fin 4) : khOf (headAt kh g) = kh :=
  Fin.ext (by show (kh.val * 4 + g.val) / 4 = kh.val; omega)

theorem col_headAt (kh : Fin 2) (g : Fin 4) (d : Fin 64) : col (headAt kh g) d = laneAt kh g d :=
  Fin.ext (by show (kh.val * 4 + g.val) * 64 + d.val = kh.val * 256 + g.val * 64 + d.val; omega)

/-- For numbers, the kernel's attention of one element is the softmax over the padded sequence. -/
theorem kernelAt_eq (hq : ∀ i, IsNum (q i)) (hk : ∀ i, IsNum (k i)) (hs : ∀ i, IsNum (s i)) (b n : Fin 16) (kh : Fin 2) (g : Fin 4)
    (r : Fin 128) (d : Fin 64) :
    kernelAt q k v s b n r (headAt kh g) d =
      attSoft (refScores q k b n kh g r) (s (ix2 0 (headAt kh g))) (fun c => padded v b (n.val * 128 + c.val) (keyLane kh d)) := by
  have hscore : (fun c => score (headAt kh g) n r c (fun e => rowBlock q b n (ix3 0 r (col (headAt kh g) e)))
      (fun e => band (rowBlock k b (before n)) (rowBlock k b n) (rowBlock k b (after n)) c (kcol (khOf (headAt kh g)) e)))
      = refScores q k b n kh g r := by
    funext c
    unfold refScores
    by_cases h : 128 ≤ n.val * 128 + c.val ∧ n.val * 128 + c.val - 128 < 2048
    · simp only [band_eq_padded k b n c _ h, khOf_headAt, col_headAt]
      rfl
    · rw [score_outside _ _ _ _ _ _ ((inside_word n c).trans (if_neg h)), score_outside _ _ _ _ _ _ ((inside_word n c).trans (if_neg h))]
  unfold kernelAt headOf
  rw [hscore]
  refine attLate_eq_attSoft _ _ _ _ (hs _).2 (hs _).1 (fun c => ?_) fun c => ?_
  · exact score_ne_top _ _ _ _ (fun e => hq _) (fun e => padded_num hk _ _ _)
  · by_cases h : 128 ≤ n.val * 128 + c.val ∧ n.val * 128 + c.val - 128 < 2048
    · right
      rw [band_eq_padded v b n c _ h, khOf_headAt]
      rfl
    · left
      exact score_outside _ _ _ _ _ _ ((inside_word n c).trans (if_neg h))

/-- The array of the softmaxes over the padded sequence, at its elements. -/
theorem kernelArr_at (hq : ∀ i, IsNum (q i)) (hk : ∀ i, IsNum (k i)) (hs : ∀ i, IsNum (s i)) (b n : Fin 16) (kh : Fin 2) (g : Fin 4)
    (r : Fin 128) (d : Fin 64) :
    kernelArr q k v s (ix3 b (seqRow n r) (laneAt kh g d)) =
      attSoft (refScores q k b n kh g r) (s (ix2 0 (headAt kh g))) (fun c => padded v b (n.val * 128 + c.val) (keyLane kh d)) := by
  rw [← kernelAt_eq q k v s hq hk hs]
  unfold kernelArr
  congr 1
  · exact Fin.ext (by show (n.val * 128 + r.val) / 128 = n.val; omega)
  · exact Fin.ext (by show (n.val * 128 + r.val) % 128 = r.val; omega)
  · exact Fin.ext (by show (kh.val * 256 + g.val * 64 + d.val) / 64 = kh.val * 4 + g.val; omega)
  · exact Fin.ext (by show (kh.val * 256 + g.val * 64 + d.val) % 64 = d.val; omega)

/-- Every index of the result is a row of a block and a coordinate of a head. -/
theorem index_split (i : Shape.Idx ⟨3, ![16, 2048, 512]⟩) :
    ∃ (b n : Fin 16) (kh : Fin 2) (g : Fin 4) (r : Fin 128) (d : Fin 64), i = ix3 b (seqRow n r) (laneAt kh g d) := by
  have h1 : (i 1).val < 2048 := (i 1).isLt
  have h2 : (i 2).val < 512 := (i 2).isLt
  refine ⟨i 0, ⟨(i 1).val / 128, by omega⟩, ⟨(i 2).val / 256, by omega⟩, ⟨(i 2).val % 256 / 64, by omega⟩, ⟨(i 1).val % 128, by omega⟩,
    ⟨(i 2).val % 64, by omega⟩, ?_⟩
  funext a
  fin_cases a
  · rfl
  · exact Fin.ext (by show (i 1).val = (i 1).val / 128 * 128 + (i 1).val % 128; omega)
  · exact Fin.ext (by show (i 2).val = (i 2).val / 256 * 256 + (i 2).val % 256 / 64 * 64 + (i 2).val % 64; omega)

end Cert.Attn

end
-- ==== Proof.AttnRefScore.lean ====
/- The attention reference's masked scores and sinks, element by element. -/
module

public import proofs.«01_k».proof.Proof.Gen.ReferenceIdeal.Read
public import proofs.«01_k».proof.Proof.AttnPad

@[expose] public section

set_option maxRecDepth 16384

noncomputable section

namespace Cert.Attn

open Idealize.ShloMosaic Cert.ReferenceIdeal Cert.ReferenceIdeal.Read Idealize.ShloMosaic.TcCoe Idealize.SL.Sem

theorem zero_word : FloatOps.sitofp (F := Ideal) FTy.f32 0#32 = (0 : EReal) := by
  simp [FloatOps.sitofp]

/-- The f32 word of minus infinity. -/
theorem minus_inf : Ideal.ofBits FTy.f32 0xFF800000#32 = (⊥ : EReal) := by
  simp [Ideal.ofBits, Ideal.ieee]

/-- The padded keys. -/
theorem padk_read (x1 : (⟨S16x2048x128, .bf16⟩ : BufTy).Contents (Elt Ideal)) (b : Fin 16) (e : Fin 2304) (kh : Fin 2) (d : Fin 64) :
    val_main_v6 (F := Ideal) x1 (ix4 b e kh d) = padded x1 b e.val (keyLane kh d) := by
  unfold val_main_v6
  pointwise [val_main_v5, val_main_v1, val_main_call0_v0, val_main_c]
  rw [zero_word]
  rfl

/-- The padded values. -/
theorem padv_read (x1 : (⟨S16x2048x128, .bf16⟩ : BufTy).Contents (Elt Ideal)) (b : Fin 16) (e : Fin 2304) (kh : Fin 2) (d : Fin 64) :
    val_main_v13 (F := Ideal) x1 (ix4 b e kh d) = padded x1 b e.val (keyLane kh d) := by
  unfold val_main_v13
  pointwise [val_main_v12, val_main_v2, val_main_call1_v0, val_main_c_0]
  rw [zero_word]
  rfl

/-- The three neighbouring blocks of keys, side by side. -/
theorem catk_read (x1 : (⟨S16x2048x128, .bf16⟩ : BufTy).Contents (Elt Ideal)) (b n : Fin 16) (c : Fin 384) (kh : Fin 2) (d : Fin 64) :
    val_main_v11 (F := Ideal) x1 (ix5 b n c kh d) = padded x1 b (n.val * 128 + c.val) (keyLane kh d) := by
  unfold val_main_v11
  pointwise [val_main_v8, val_main_v9, val_main_v10, val_main_v7]
  simp only [padk_read]
  split_ifs
  · rfl
  · exact congrArg (fun p => padded x1 b p (keyLane kh d)) (by show (1 + n.val) * 128 + (c.val - 128) = _; omega)
  · exact congrArg (fun p => padded x1 b p (keyLane kh d)) (by show (2 + n.val) * 128 + (c.val - 128 - 128) = _; omega)

/-- The three neighbouring blocks of values, side by side. -/
theorem catv_read (x1 : (⟨S16x2048x128, .bf16⟩ : BufTy).Contents (Elt Ideal)) (b n : Fin 16) (c : Fin 384) (kh : Fin 2) (d : Fin 64) :
    val_main_v18 (F := Ideal) x1 (ix5 b n c kh d) = padded x1 b (n.val * 128 + c.val) (keyLane kh d) := by
  unfold val_main_v18
  pointwise [val_main_v15, val_main_v16, val_main_v17, val_main_v14]
  simp only [padv_read]
  split_ifs
  · rfl
  · exact congrArg (fun p => padded x1 b p (keyLane kh d)) (by show (1 + n.val) * 128 + (c.val - 128) = _; omega)
  · exact congrArg (fun p => padded x1 b p (keyLane kh d)) (by show (2 + n.val) * 128 + (c.val - 128 - 128) = _; omega)

/-- The scaled products of queries and keys. -/
theorem dot_read (x0 : (⟨S16x2048x512, .bf16⟩ : BufTy).Contents (Elt Ideal)) (x1 : (⟨S16x2048x128, .bf16⟩ : BufTy).Contents (Elt Ideal))
    (b n : Fin 16) (c : Fin 384) (kh : Fin 2) (g : Fin 4) (r : Fin 128) :
    val_main_v22 (F := Ideal) x0 x1 (ix6 b n kh g r c) =
      (∑ d, x0 (ix3 b (seqRow n r) (laneAt kh g d)) * padded x1 b (n.val * 128 + c.val) (keyLane kh d))
        * Ideal.ofBits .f32 0x3E000000#32 := by
  unfold val_main_v22
  pointwise [val_main_v20, val_main_v19, val_main_v21, val_main_v4, val_main_v0, val_main_cst]
  simp only [catk_read]
  congr 1
  exact Finset.sum_congr rfl fun d _ => mul_comm _ _

/-- The distance slopes. -/
theorem slope_read (h : Fin 8) : val_main_v63 (F := Ideal) (ix1 h) = Ideal.ofBits .f32 (slopeWord h) := by
  unfold val_main_v63
  pointwise [val_main_v55, val_main_v56, val_main_v57, val_main_v58, val_main_v59, val_main_v60, val_main_v61, val_main_v62,
    val_main_cst_7, val_main_cst_8, val_main_cst_9, val_main_cst_10, val_main_cst_11, val_main_cst_12, val_main_cst_13, val_main_cst_14]
  fin_cases h <;> simp [slopeWord]

/-- The distances. -/
theorem dist_read (r : Fin 128) (c : Fin 384) : val_main_v32 (F := Ideal) (ix2 r c) = dist r c := by
  unfold val_main_v32
  pointwise [val_main_v31, val_main_v30, val_main_v29, val_main_v28, val_main_v27, val_main_v26, val_main_v25, val_main_v24,
    val_main_v23, val_main_c_1]
  rfl

/-- The positions of the band in the sequence. -/
theorem pos_read (n : Fin 16) (c : Fin 384) : val_main_v42 (F := Ideal) (ix2 n c) = pos n c := by
  unfold val_main_v42
  pointwise [val_main_v41, val_main_v40, val_main_v39, val_main_v38, val_main_v37, val_main_v36, val_main_v35, val_main_v34,
    val_main_v33, val_main_v24, val_main_c_2, val_main_c_3]
  rfl

/-- The band's mask. -/
theorem mask_read (n : Fin 16) (r : Fin 128) (c : Fin 384) : val_main_v54 (F := Ideal) (ix3 n r c) = inBand n r c := by
  unfold val_main_v54
  pointwise [val_main_v53, val_main_v52, val_main_v51, val_main_v50, val_main_v49, val_main_v48, val_main_v47, val_main_v46,
    val_main_v45, val_main_v44, val_main_v43, val_main_c_4, val_main_c_5, val_main_c_6]
  simp only [dist_read, pos_read]
  rfl

/-- The masked scores. -/
theorem logit_read (x0 : (⟨S16x2048x512, .bf16⟩ : BufTy).Contents (Elt Ideal)) (x1 : (⟨S16x2048x128, .bf16⟩ : BufTy).Contents (Elt Ideal))
    (b n : Fin 16) (c : Fin 384) (kh : Fin 2) (g : Fin 4) (r : Fin 128) :
    val_main_v75 (F := Ideal) x0 x1 (ix6 b n kh g r c) =
      score (headAt kh g) n r c (fun d => x0 (ix3 b (seqRow n r) (laneAt kh g d)))
        (fun d => padded x1 b (n.val * 128 + c.val) (keyLane kh d)) := by
  unfold val_main_v75
  pointwise [val_main_v74, val_main_v73, val_main_v72, val_main_v71, val_main_v70, val_main_v69, val_main_v68, val_main_v67,
    val_main_v66, val_main_v65, val_main_v64, val_main_call2_v0, val_main_call2_v1, val_main_call2_v2, val_main_cst_15]
  simp only [dot_read, mask_read, dist_read, slope_read]
  show Scalar.select _ _ (Ideal.ofBits FTy.f32 0xFF800000#32) = _
  rw [minus_inf]
  rfl

/-- The sinks. -/
theorem sink_read (x3 : (⟨S1x8, .f32⟩ : BufTy).Contents (Elt Ideal)) (b n : Fin 16) (kh : Fin 2) (g : Fin 4) (r : Fin 128) (u : Fin 1) :
    val_main_v77 (F := Ideal) x3 (ix6 b n kh g r u) = x3 (ix2 0 (headAt kh g)) := by
  unfold val_main_v77
  pointwise [val_main_v76, val_main_v3]
  rfl

end Cert.Attn

end
-- ==== Proof.AttnRef.lean ====
/- The attention reference's result, element by element. -/
module

public import proofs.«01_k».proof.Proof.AttnRefScore

@[expose] public section

set_option maxRecDepth 16384

noncomputable section

namespace Cert.Attn

open Idealize.ShloMosaic Cert.ReferenceIdeal Cert.ReferenceIdeal.Read Idealize.ShloMosaic.TcCoe Idealize.SL.Sem

/-- The fold of `max` over one more term. -/
theorem fold_last (n : Nat) (f : Fin (n + 1) → EReal) :
    Finset.univ.fold max ⊥ f = max (Finset.univ.fold max ⊥ fun c : Fin n => f c.castSucc) (f (Fin.last n)) := by
  rw [Fin.univ_castSuccEmb, Finset.fold_cons, Finset.fold_map, max_comm]
  rfl

/-- Inserting the last coordinate into a five-axis index. -/
theorem lift6 {n0 n1 n2 n3 n4 n5 : Nat} (h : (⟨6, ![n0, n1, n2, n3, n4, n5]⟩ : Shape).Reduces [5] ⟨5, ![n0, n1, n2, n3, n4]⟩)
    (a : Fin n0) (b : Fin n1) (c : Fin n2) (d : Fin n3) (e : Fin n4) (k : Fin n5) :
    h.lift (ix5 a b c d e) k = ix6 a b c d e k :=
  funext fun x => Fin.ext (by match x with | ⟨0, _⟩ => rfl | ⟨1, _⟩ => rfl | ⟨2, _⟩ => rfl | ⟨3, _⟩ => rfl | ⟨4, _⟩ => rfl | ⟨5, _⟩ => rfl)

/-- The largest element along the last of six axes. -/
theorem fold6 {n0 n1 n2 n3 n4 n5 : Nat} {u : Shape} (x : (⟨6, ![n0, n1, n2, n3, n4, n5]⟩ : Shape).Idx → EReal) (init : u.Idx → EReal)
    (h' : (⟨6, ![n0, n1, n2, n3, n4, n5]⟩ : Shape).ReducesTo [5] ⟨5, ![n0, n1, n2, n3, n4]⟩)
    (h : (⟨6, ![n0, n1, n2, n3, n4, n5]⟩ : Shape).Reduces [5] ⟨5, ![n0, n1, n2, n3, n4]⟩) (hu : 0 < u.numel)
    (a : Fin n0) (b : Fin n1) (c : Fin n2) (d : Fin n3) (e : Fin n4) :
    Host.reduce (FloatOps.maximumf (F := Ideal) (φ := .f32)) x init h' hu (ix5 a b c d e) =
      (Finset.univ : Finset (Fin n5)).fold max (init (Shape.Idx.first hu)) fun k => x (ix6 a b c d e k) := by
  refine (Host.reduce_eq_fold_single max x init h' h hu _).trans ?_
  exact congrArg (fun f => (Finset.univ : Finset (Fin n5)).fold max (init (Shape.Idx.first hu)) f)
    (funext fun k => congrArg x (lift6 h a b c d e k))

section Softmax

variable (x0 : (⟨S16x2048x512, .bf16⟩ : BufTy).Contents (Elt Ideal)) (x1 x2 : (⟨S16x2048x128, .bf16⟩ : BufTy).Contents (Elt Ideal))
  (x3 : (⟨S1x8, .f32⟩ : BufTy).Contents (Elt Ideal)) (b n : Fin 16) (kh : Fin 2) (g : Fin 4) (r : Fin 128)

theorem joined_score (c : Fin 384) :
    val_main_v78 (F := Ideal) x0 x1 x3 (ix6 b n kh g r c.castSucc) = refScores x0 x1 b n kh g r c := by
  unfold val_main_v78
  pointwise
  simp [logit_read, refScores]

theorem joined_late (c : Fin 385) (hc : ¬ c.val < 384) :
    val_main_v78 (F := Ideal) x0 x1 x3 (ix6 b n kh g r c) = x3 (ix2 0 (headAt kh g)) := by
  unfold val_main_v78
  pointwise
  rw [dif_neg hc, sink_read]

theorem joined_sink :
    val_main_v78 (F := Ideal) x0 x1 x3 (ix6 b n kh g r (Fin.last 384)) = x3 (ix2 0 (headAt kh g)) :=
  joined_late x0 x1 x3 b n kh g r (Fin.last 384) (Nat.lt_irrefl 384)

theorem reduce_read :
    val_main_v79 (F := Ideal) x0 x1 x3 (ix5 b n kh g r) = top (refScores x0 x1 b n kh g r) (x3 (ix2 0 (headAt kh g))) := by
  unfold val_main_v79
  refine (fold6 _ _ _ (by decide) _ _ _ _ _ _).trans ?_
  show Finset.fold max (Ideal.ofBits FTy.f32 0xFF800000#32) _ _ = _
  rw [minus_inf, fold_last]
  simp only [joined_score, joined_sink]
  rfl

theorem max_read :
    val_main_v81 (F := Ideal) x0 x1 x3 (ix5 b n kh g r) = top (refScores x0 x1 b n kh g r) (x3 (ix2 0 (headAt kh g))) := by
  rw [val_main_v81_apply, val_main_v80_apply, val_main_cst_17_apply, reduce_read]
  show max (Ideal.ofBits FTy.f32 0xFF800000#32) _ = _
  rw [minus_inf, max_eq_right bot_le]

theorem exp_read (c : Fin 385) :
    val_main_v85 (F := Ideal) x0 x1 x3 (ix6 b n kh g r c) =
      Ideal.exp (val_main_v78 (F := Ideal) x0 x1 x3 (ix6 b n kh g r c)
        - top (refScores x0 x1 b n kh g r) (x3 (ix2 0 (headAt kh g)))) := by
  unfold val_main_v85
  pointwise [val_main_v84, val_main_v83, val_main_v82]
  simp only [max_read]

theorem mass_read :
    val_main_v86 (F := Ideal) x0 x1 x3 (ix5 b n kh g r) = mass (refScores x0 x1 b n kh g r) (x3 (ix2 0 (headAt kh g))) := by
  have e0 : FloatOps.ofBits (F := Ideal) .f32 0x00000000#32 = (0 : EReal) := by
    show Ideal.ofBits FTy.f32 0x00000000#32 = (0 : EReal)
    simp [Ideal.ofBits, Ideal.ieee]
  have hi : ∀ k : Fin 385, idx_main_v86 (ix5 b n kh g r) k = ix6 b n kh g r k := fun k => funext fun a => by
    match a with | ⟨0, _⟩ => rfl | ⟨1, _⟩ => rfl | ⟨2, _⟩ => rfl | ⟨3, _⟩ => rfl | ⟨4, _⟩ => rfl | ⟨5, _⟩ => rfl
  rw [val_main_v86_apply, val_main_cst_18_apply, e0, zero_add]
  simp only [hi, exp_read]
  rw [Fin.sum_univ_castSucc]
  simp only [joined_score, joined_sink]
  rfl

theorem prob_read (c : Fin 384) :
    val_main_v90 (F := Ideal) x0 x1 x3 (ix6 b n kh g r c) =
      Ideal.div (Ideal.exp (refScores x0 x1 b n kh g r c - top (refScores x0 x1 b n kh g r) (x3 (ix2 0 (headAt kh g)))))
        (mass (refScores x0 x1 b n kh g r) (x3 (ix2 0 (headAt kh g)))) := by
  unfold val_main_v90
  pointwise [val_main_v89, val_main_v88, val_main_v87]
  rw [exp_read, mass_read]
  rw [← joined_score x0 x1 x3]
  rfl

/-- The reference's result at row `r` of block `n` of batch `b`, coordinate `d` of member `g` of group `kh`. -/
theorem result_read (d : Fin 64) :
    val_main_v94 (F := Ideal) x0 x1 x2 x3 (ix3 b (seqRow n r) (laneAt kh g d)) =
      attSoft (refScores x0 x1 b n kh g r) (x3 (ix2 0 (headAt kh g)))
        (fun c => padded x2 b (n.val * 128 + c.val) (keyLane kh d)) := by
  have e : val_main_v93 (F := Ideal) x0 x1 x2 x3 (ix3 b (seqRow n r) (laneAt kh g d)) =
      val_main_v92 (F := Ideal) x0 x1 x2 x3 (ix6 b n r kh g d) := by
    have hr := r.isLt
    have hd := d.isLt
    have hg := g.isLt
    have key : ∀ (n' : Fin 16) (r' : Fin 128) (kh' : Fin 2) (g' : Fin 4) (d' : Fin 64), n' = n → r' = r → kh' = kh → g' = g → d' = d →
        val_main_v92 (F := Ideal) x0 x1 x2 x3 (ix6 b n' r' kh' g' d') = val_main_v92 (F := Ideal) x0 x1 x2 x3 (ix6 b n r kh g d) := by
      rintro _ _ _ _ _ rfl rfl rfl rfl rfl
      rfl
    unfold val_main_v93
    pointwise
    refine key _ _ _ _ _ ?_ ?_ ?_ ?_ ?_
    · exact Fin.ext (by show (n.val * 128 + r.val) / 128 = n.val; omega)
    · exact Fin.ext (by show (n.val * 128 + r.val) % 128 = r.val; omega)
    · exact Fin.ext (by show (kh.val * 256 + g.val * 64 + d.val) / 256 = kh.val; omega)
    · exact Fin.ext (by show (kh.val * 256 + g.val * 64 + d.val) / 64 % 4 = g.val; omega)
    · exact Fin.ext (by show (kh.val * 256 + g.val * 64 + d.val) % 64 = d.val; omega)
  unfold val_main_v94
  pointwise
  rw [e]
  unfold val_main_v92
  pointwise [val_main_v91]
  simp only [catv_read, prob_read]
  rfl

end Softmax

end Cert.Attn

end
-- ==== Proof.AttnEq.lean ====
/- The attention: from memories that agree on the arguments and hold numbers, kernel and reference end with the same array. -/
module

public import proofs.«01_k».proof.Defs
public import proofs.«01_k».proof.Proof.Gen.KernelIdeal.Value
public import proofs.«01_k».proof.Proof.Gen.ReferenceIdeal.Run
public import proofs.«01_k».proof.Proof.AttnRef

@[expose] public section

set_option maxRecDepth 16384

noncomputable section

namespace Cert.Attn

open Idealize.ShloMosaic Idealize.ShloMosaic.TcCoe Idealize.SL.Sem

/-- For numbers the reference's result is the kernel's array. -/
theorem ref_eq (q : Vec Ideal ⟨3, ![16, 2048, 512]⟩ .bf16) (k v : Vec Ideal ⟨3, ![16, 2048, 128]⟩ .bf16) (s : Vec Ideal ⟨2, ![1, 8]⟩ .f32)
    (hq : ∀ i, IsNum (q i)) (hk : ∀ i, IsNum (k i)) (hs : ∀ i, IsNum (s i)) :
    Cert.ReferenceIdeal.Read.val_main_v94 (F := Ideal) q k v s = kernelArr q k v s := by
  funext i
  obtain ⟨b, n, kh, g, r, d, rfl⟩ := index_split i
  exact (result_read q k v s b n kh g r d).trans (kernelArr_at q k v s hq hk hs b n kh g r d).symm

theorem kernelArr_congr {q q' k k' v v' s s'} (h0 : q' = q) (h1 : k' = k) (h2 : v' = v) (h3 : s' = s) :
    kernelArr q' k' v' s' = kernelArr q k v s := by
  subst h0 h1 h2 h3
  rfl

/-- From memories that agree on the arguments, both programs end with the same result where the arguments are numbers. -/
theorem algebraic : Cert.algebraic_KernelIdeal_ReferenceIdeal_pre_finite := by
  intro m g m' g' hpre hag
  refine ⟨fun c => kernelArr (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)), ?_, ?_⟩
  · refine (θ_run _ _ _).mono (fun r h c => ?_) (Cert.KernelIdeal.Value.run_blocks m g)
    obtain ⟨h0, h1⟩ := h c
    exact ⟨h0.trans (array_eq m c), h1⟩
  · refine (θ_run _ _ _).mono (fun r h c => ?_) (Cert.ReferenceIdeal.Value.run m' g')
    obtain ⟨h0, h1⟩ := h c
    obtain ⟨a0, a1, a2, a3⟩ := hag c
    obtain ⟨nq, nk, ns⟩ := finite_read _ _ _ _ (hpre c)
    refine ⟨h0.trans ?_, h1⟩
    refine (Cert.ReferenceIdeal.Read.val_main_v94_eq m' c).trans ((ref_eq _ _ _ _ ?_ ?_ ?_).trans (kernelArr_congr a0 a1 a2 a3))
    · intro i
      rw [a0]
      exact nq i
    · intro i
      rw [a1]
      exact nk i
    · intro i
      rw [a3]
      exact ns i

end Cert.Attn

end
-- ==== Proof.MixSpec.lean ====
/- One row of the mixing layer, as functions of the row's values and of the weights. -/
module

public import Idealize.ShloMosaic.Lib.Pointwise

@[expose] public section

noncomputable section

namespace Cert.Mix

open Idealize.ShloMosaic

/-- A row divided by its root mean square and scaled. -/
def norm (x g : Fin 1024 → EReal) (k : Fin 1024) : EReal :=
  x k * Ideal.rsqrt (Ideal.div (∑ j, x j * x j) (Ideal.ofBits .f32 0x44800000#32) + Ideal.ofBits .f32 0x358637BD#32) * g k

/-- The number of positions of the window of half width `h` around `t` that lie in the sequence. -/
def count (h t : Nat) : EReal :=
  FloatOps.sitofp (F := Ideal) .f32
    (IntOp.subi (IntOp.minsi (IntOp.addi (BitVec.ofNat 32 t) (BitVec.ofNat 32 h)) 2048#32)
      (IntOp.maxsi (IntOp.subi (BitVec.ofNat 32 t) (BitVec.ofNat 32 h)) 0#32))

/-- The window's sum around place `p` of a sequence of values. -/
def total (e : Nat → EReal) (h p : Nat) : EReal := ∑ o ∈ Finset.range (2 * h), e (p - h + o)

/-- The window's mean less the value at its centre. -/
def mixed (e : Nat → EReal) (h t p : Nat) : EReal := Ideal.div (total e h p) (count h t) - e p

/-- The half width of a group's window. -/
def half (g : Fin 4) : Nat := 2 ^ g.val

/-- The group and the lane in the group of a pooled lane. -/
def grp (j : Fin 512) : Fin 4 := ⟨j.val / 128, by omega⟩
def lane (j : Fin 512) : Fin 128 := ⟨j.val % 128, by omega⟩
def glane (g : Fin 4) (c : Fin 128) : Fin 512 := ⟨g.val * 128 + c.val, by omega⟩

/-- The pooled branch at lane `j`, from the mixed values of every group. -/
def pooled (mx : Fin 4 → Fin 128 → EReal) (pw : Fin 4 → Fin 128 → Fin 128 → EReal) (ps : Fin 512 → EReal)
    (j : Fin 512) : EReal := (∑ c, mx (grp j) c * pw (grp j) c (lane j)) * ps j

/-- A gate. -/
def gate (h : Fin 1024 → EReal) (wg : Fin 1024 → Fin 2048 → EReal) (bg : Fin 2048 → EReal) (j : Fin 2048) : EReal :=
  Ideal.logistic ((∑ k, h k * wg k j) + bg j)

/-- The gates of the two branches. -/
def lo (k : Fin 1024) : Fin 2048 := ⟨k.val, by omega⟩
def hi (k : Fin 1024) : Fin 2048 := ⟨1024 + k.val, by omega⟩

/-- The row after the two gated branches. -/
def merged (x : Fin 1024 → EReal) (ga : Fin 2048 → EReal) (oa op : Fin 512 → EReal)
    (wb : Fin 2 → Fin 512 → Fin 1024 → EReal) (wo : Fin 1024 → Fin 1024 → EReal) (j : Fin 1024) : EReal :=
  x j + ∑ k, (ga (lo k) * (∑ c, oa c * wb 0 c k) + ga (hi k) * ∑ c, op c * wb 1 c k) * wo k j

/-- The whole layer on one row. -/
def rowOut (x g1 : Fin 1024 → EReal) (wg : Fin 1024 → Fin 2048 → EReal) (bg : Fin 2048 → EReal) (oa : Fin 512 → EReal)
    (mx : Fin 4 → Fin 128 → EReal) (pw : Fin 4 → Fin 128 → Fin 128 → EReal) (ps : Fin 512 → EReal)
    (wb : Fin 2 → Fin 512 → Fin 1024 → EReal) (wo : Fin 1024 → Fin 1024 → EReal) : Fin 1024 → EReal :=
  merged x (gate (norm x g1) wg bg) oa (pooled mx pw ps) wb wo

/-- A lane of a batch's sequence with eight zeros before it and zeros after it. -/
def padSeq (u : Vec Ideal ⟨3, ![16, 2048, 512]⟩ .f32) (b : Fin 16) (j : Fin 512) (p : Nat) : EReal :=
  if h : 8 ≤ p ∧ p - 8 < 2048 then u (ix3 b ⟨p - 8, h.2⟩ j) else 0

/-- The layer on the row at place `t` of batch `b`. -/
def mixRow (x : Vec Ideal ⟨3, ![16, 2048, 1024]⟩ .f32) (u : Vec Ideal ⟨3, ![16, 2048, 512]⟩ .f32)
    (oa : Vec Ideal ⟨3, ![16, 2048, 512]⟩ .bf16) (g1 : Vec Ideal ⟨2, ![1, 1024]⟩ .f32) (wg : Vec Ideal ⟨3, ![1, 1024, 2048]⟩ .f32)
    (bg : Vec Ideal ⟨2, ![1, 2048]⟩ .f32) (pw : Vec Ideal ⟨4, ![1, 4, 128, 128]⟩ .f32) (ps : Vec Ideal ⟨2, ![1, 512]⟩ .f32)
    (wb : Vec Ideal ⟨4, ![1, 2, 512, 1024]⟩ .f32) (wo : Vec Ideal ⟨3, ![1, 1024, 1024]⟩ .f32) (b : Fin 16) (t : Fin 2048) : Fin 1024 → EReal :=
  rowOut (fun k => x (ix3 b t k)) (fun k => g1 (ix2 0 k)) (fun k j => wg (ix3 0 k j)) (fun j => bg (ix2 0 j))
    (fun c => oa (ix3 b t c)) (fun g l => mixed (padSeq u b (glane g l)) (half g) t.val (t.val + 8))
    (fun g x k => pw (ix4 0 g x k)) (fun j => ps (ix2 0 j)) (fun s c k => wb (ix4 0 s c k)) (fun k j => wo (ix3 0 k j))

end Cert.Mix
-- ==== Proof.MixRefPool.lean ====
/- The window means of the mixing reference, group by group. -/
module

public import proofs.«01_k».proof.Proof.Gen.Reference2Ideal.Read
public import proofs.«01_k».proof.Proof.MixSpec

@[expose] public section

set_option maxRecDepth 16384

noncomputable section

namespace Cert.Mix

open Idealize.ShloMosaic Cert.Reference2Ideal Cert.Reference2Ideal.Gen Cert.Reference2Ideal.Read Idealize.ShloMosaic.TcCoe Idealize.SL.Sem

variable (x0 : (⟨S16x2048x1024, .f32⟩ : BufTy).Contents (Elt Ideal)) (x1 : (⟨S16x2048x512, .f32⟩ : BufTy).Contents (Elt Ideal))
  (x2 : (⟨S16x2048x512, .bf16⟩ : BufTy).Contents (Elt Ideal)) (x3 : (⟨S1x1024, .f32⟩ : BufTy).Contents (Elt Ideal))
  (x4 : (⟨S1x1024x2048, .f32⟩ : BufTy).Contents (Elt Ideal)) (x5 : (⟨S1x2048, .f32⟩ : BufTy).Contents (Elt Ideal))
  (x6 : (⟨S1x4x128x128, .f32⟩ : BufTy).Contents (Elt Ideal)) (x7 : (⟨S1x512, .f32⟩ : BufTy).Contents (Elt Ideal))
  (x8 : (⟨S1x2x512x1024, .f32⟩ : BufTy).Contents (Elt Ideal)) (x9 : (⟨S1x1024x1024, .f32⟩ : BufTy).Contents (Elt Ideal))
  (x10 : (⟨S1x1024, .f32⟩ : BufTy).Contents (Elt Ideal)) (b : Fin 16) (t : Fin 2048)

theorem at_eq {b : Fin 16} {p q : Fin 2048} {i j : Fin 512} (hp : p.val = q.val) (hi : i.val = j.val) : ix3 b p i = ix3 b q j := by
  rw [Fin.ext hp, Fin.ext hi]

theorem zero_word : FloatOps.sitofp (F := Ideal) FTy.f32 0#32 = (0 : EReal) := by
  simp [FloatOps.sitofp]

/-- Group 0's lanes with 1 zeros at each end of the sequence. -/
theorem pad0_read (p : Fin 2050) (l : Fin 128) :
    val_main_v28 (F := Ideal) x1 (ix3 b p l) = padSeq x1 b (glane 0 l) (p.val + 7) := by
  unfold val_main_v28
  pointwise [val_main_v27, val_main_v26, val_main_v16, val_main_call2_v0, val_main_c_8]
  rw [zero_word]
  unfold padSeq
  by_cases hp : 1 ≤ p.val ∧ p.val - 1 < 2048
  · rw [dif_pos hp, dif_pos (by omega)]
    exact congrArg x1 (at_eq (by show p.val - 1 = p.val + 7 - 8; omega) (by show l.val = 0 * 128 + l.val; omega))
  · rw [dif_neg hp, dif_neg (by omega)]

/-- Group 0's window sum. -/
theorem sum0_read (l : Fin 128) :
    val_main_v31 (F := Ideal) x1 (ix3 b t l) = total (padSeq x1 b (glane 0 l)) 1 (t.val + 8) := by
  unfold val_main_v31
  pointwise [val_main_v30, val_main_v29]
  have q (o : Nat) : padSeq x1 b (glane 0 l) (o + t.val + 7) = padSeq x1 b (glane 0 l) (t.val + 8 - 1 + o) :=
    congrArg _ (by omega)
  have q0 : padSeq x1 b (glane 0 l) (t.val + 7) = padSeq x1 b (glane 0 l) (t.val + 8 - 1 + 0) := congrArg _ (by omega)
  simp only [pad0_read, q, q0]
  unfold total
  simp only [Nat.reduceMul, Finset.sum_range_succ, Finset.sum_range_zero, zero_add]

/-- The two ways of counting group 0's window are equal at every place. -/
theorem word0 : ∀ t : Fin 2048,
    IntOp.subi (IntOp.minsi 2048#32 (IntOp.maxsi 0#32 (IntOp.subi (IntOp.addi (BitVec.ofNat 32 t.val) 2#32) 1#32)))
        (IntOp.minsi 2048#32 (IntOp.maxsi 0#32 (IntOp.subi (BitVec.ofNat 32 t.val) 1#32)))
      = IntOp.subi (IntOp.minsi (IntOp.addi (BitVec.ofNat 32 t.val) (BitVec.ofNat 32 1)) 2048#32)
          (IntOp.maxsi (IntOp.subi (BitVec.ofNat 32 t.val) (BitVec.ofNat 32 1)) 0#32) := by
  decide +kernel

/-- Group 0's window mean. -/
theorem mean0_read (l : Fin 128) :
    val_main_v37 (F := Ideal) x1 (ix3 b t l) = Ideal.div (total (padSeq x1 b (glane 0 l)) 1 (t.val + 8)) (count 1 t.val) := by
  unfold val_main_v37
  pointwise [val_main_v36, val_main_v35, val_main_v34, val_main_v33, val_main_v32, val_main_v20, val_main_v25, val_main_call0_v0, val_main_call0_v1, val_main_call0_v2, val_main_call0_v3, val_main_call0_v4, val_main_call1_v0, val_main_call1_v1, val_main_call1_v2, val_main_call1_v3, val_main_call1_v4, val_main_v18, val_main_v19, val_main_v21, val_main_v22, val_main_v23, val_main_v24, val_main_c, val_main_c_2, val_main_c_3, val_main_c_4, val_main_c_5, val_main_c_6, val_main_c_7, val_main_v17]
  rw [sum0_read]
  exact congrArg (Ideal.div _) (congrArg (FloatOps.sitofp (F := Ideal) FTy.f32) (word0 t))

/-- Group 1's lanes with 2 zeros at each end of the sequence. -/
theorem pad1_read (p : Fin 2052) (l : Fin 128) :
    val_main_v48 (F := Ideal) x1 (ix3 b p l) = padSeq x1 b (glane 1 l) (p.val + 6) := by
  unfold val_main_v48
  pointwise [val_main_v47, val_main_v46, val_main_v16, val_main_call5_v0, val_main_c_16]
  rw [zero_word]
  unfold padSeq
  by_cases hp : 2 ≤ p.val ∧ p.val - 2 < 2048
  · rw [dif_pos hp, dif_pos (by omega)]
    exact congrArg x1 (at_eq (by show p.val - 2 = p.val + 6 - 8; omega) (by show 128 + l.val = 1 * 128 + l.val; omega))
  · rw [dif_neg hp, dif_neg (by omega)]

/-- Group 1's window sum. -/
theorem sum1_read (l : Fin 128) :
    val_main_v55 (F := Ideal) x1 (ix3 b t l) = total (padSeq x1 b (glane 1 l)) 2 (t.val + 8) := by
  unfold val_main_v55
  pointwise [val_main_v54, val_main_v53, val_main_v52, val_main_v51, val_main_v50, val_main_v49]
  have q (o : Nat) : padSeq x1 b (glane 1 l) (o + t.val + 6) = padSeq x1 b (glane 1 l) (t.val + 8 - 2 + o) :=
    congrArg _ (by omega)
  have q0 : padSeq x1 b (glane 1 l) (t.val + 6) = padSeq x1 b (glane 1 l) (t.val + 8 - 2 + 0) := congrArg _ (by omega)
  simp only [pad1_read, q, q0]
  unfold total
  simp only [Nat.reduceMul, Finset.sum_range_succ, Finset.sum_range_zero, zero_add]

/-- The two ways of counting group 1's window are equal at every place. -/
theorem word1 : ∀ t : Fin 2048,
    IntOp.subi (IntOp.minsi 2048#32 (IntOp.maxsi 0#32 (IntOp.subi (IntOp.addi (BitVec.ofNat 32 t.val) 4#32) 2#32)))
        (IntOp.minsi 2048#32 (IntOp.maxsi 0#32 (IntOp.subi (BitVec.ofNat 32 t.val) 2#32)))
      = IntOp.subi (IntOp.minsi (IntOp.addi (BitVec.ofNat 32 t.val) (BitVec.ofNat 32 2)) 2048#32)
          (IntOp.maxsi (IntOp.subi (BitVec.ofNat 32 t.val) (BitVec.ofNat 32 2)) 0#32) := by
  decide +kernel

/-- Group 1's window mean. -/
theorem mean1_read (l : Fin 128) :
    val_main_v61 (F := Ideal) x1 (ix3 b t l) = Ideal.div (total (padSeq x1 b (glane 1 l)) 2 (t.val + 8)) (count 2 t.val) := by
  unfold val_main_v61
  pointwise [val_main_v60, val_main_v59, val_main_v58, val_main_v57, val_main_v56, val_main_v40, val_main_v45, val_main_call3_v0, val_main_call3_v1, val_main_call3_v2, val_main_call3_v3, val_main_call3_v4, val_main_call4_v0, val_main_call4_v1, val_main_call4_v2, val_main_call4_v3, val_main_call4_v4, val_main_v38, val_main_v39, val_main_v41, val_main_v42, val_main_v43, val_main_v44, val_main_c_9, val_main_c_10, val_main_c_11, val_main_c_12, val_main_c_13, val_main_c_14, val_main_c_15, val_main_v17]
  rw [sum1_read]
  exact congrArg (Ideal.div _) (congrArg (FloatOps.sitofp (F := Ideal) FTy.f32) (word1 t))

/-- Group 2's lanes with 4 zeros at each end of the sequence. -/
theorem pad2_read (p : Fin 2056) (l : Fin 128) :
    val_main_v72 (F := Ideal) x1 (ix3 b p l) = padSeq x1 b (glane 2 l) (p.val + 4) := by
  unfold val_main_v72
  pointwise [val_main_v71, val_main_v70, val_main_v16, val_main_call8_v0, val_main_c_24]
  rw [zero_word]
  unfold padSeq
  by_cases hp : 4 ≤ p.val ∧ p.val - 4 < 2048
  · rw [dif_pos hp, dif_pos (by omega)]
    exact congrArg x1 (at_eq (by show p.val - 4 = p.val + 4 - 8; omega) (by show 256 + l.val = 2 * 128 + l.val; omega))
  · rw [dif_neg hp, dif_neg (by omega)]

/-- Group 2's window sum. -/
theorem sum2_read (l : Fin 128) :
    val_main_v87 (F := Ideal) x1 (ix3 b t l) = total (padSeq x1 b (glane 2 l)) 4 (t.val + 8) := by
  unfold val_main_v87
  pointwise [val_main_v86, val_main_v85, val_main_v84, val_main_v83, val_main_v82, val_main_v81, val_main_v80, val_main_v79, val_main_v78, val_main_v77, val_main_v76, val_main_v75, val_main_v74, val_main_v73]
  have q (o : Nat) : padSeq x1 b (glane 2 l) (o + t.val + 4) = padSeq x1 b (glane 2 l) (t.val + 8 - 4 + o) :=
    congrArg _ (by omega)
  have q0 : padSeq x1 b (glane 2 l) (t.val + 4) = padSeq x1 b (glane 2 l) (t.val + 8 - 4 + 0) := congrArg _ (by omega)
  simp only [pad2_read, q, q0]
  unfold total
  simp only [Nat.reduceMul, Finset.sum_range_succ, Finset.sum_range_zero, zero_add]

/-- The two ways of counting group 2's window are equal at every place. -/
theorem word2 : ∀ t : Fin 2048,
    IntOp.subi (IntOp.minsi 2048#32 (IntOp.maxsi 0#32 (IntOp.subi (IntOp.addi (BitVec.ofNat 32 t.val) 8#32) 4#32)))
        (IntOp.minsi 2048#32 (IntOp.maxsi 0#32 (IntOp.subi (BitVec.ofNat 32 t.val) 4#32)))
      = IntOp.subi (IntOp.minsi (IntOp.addi (BitVec.ofNat 32 t.val) (BitVec.ofNat 32 4)) 2048#32)
          (IntOp.maxsi (IntOp.subi (BitVec.ofNat 32 t.val) (BitVec.ofNat 32 4)) 0#32) := by
  decide +kernel

/-- Group 2's window mean. -/
theorem mean2_read (l : Fin 128) :
    val_main_v93 (F := Ideal) x1 (ix3 b t l) = Ideal.div (total (padSeq x1 b (glane 2 l)) 4 (t.val + 8)) (count 4 t.val) := by
  unfold val_main_v93
  pointwise [val_main_v92, val_main_v91, val_main_v90, val_main_v89, val_main_v88, val_main_v64, val_main_v69, val_main_call6_v0, val_main_call6_v1, val_main_call6_v2, val_main_call6_v3, val_main_call6_v4, val_main_call7_v0, val_main_call7_v1, val_main_call7_v2, val_main_call7_v3, val_main_call7_v4, val_main_v62, val_main_v63, val_main_v65, val_main_v66, val_main_v67, val_main_v68, val_main_c_17, val_main_c_18, val_main_c_19, val_main_c_20, val_main_c_21, val_main_c_22, val_main_c_23, val_main_v17]
  rw [sum2_read]
  exact congrArg (Ideal.div _) (congrArg (FloatOps.sitofp (F := Ideal) FTy.f32) (word2 t))

/-- Group 3's lanes with 8 zeros at each end of the sequence. -/
theorem pad3_read (p : Fin 2064) (l : Fin 128) :
    val_main_v104 (F := Ideal) x1 (ix3 b p l) = padSeq x1 b (glane 3 l) (p.val + 0) := by
  unfold val_main_v104
  pointwise [val_main_v103, val_main_v102, val_main_v16, val_main_call11_v0, val_main_c_32]
  rw [zero_word]
  unfold padSeq
  by_cases hp : 8 ≤ p.val ∧ p.val - 8 < 2048
  · rw [dif_pos hp, dif_pos (by omega)]
    exact congrArg x1 (at_eq (by show p.val - 8 = p.val + 0 - 8; omega) (by show 384 + l.val = 3 * 128 + l.val; omega))
  · rw [dif_neg hp, dif_neg (by omega)]

/-- Group 3's window sum. -/
theorem sum3_read (l : Fin 128) :
    val_main_v135 (F := Ideal) x1 (ix3 b t l) = total (padSeq x1 b (glane 3 l)) 8 (t.val + 8) := by
  unfold val_main_v135
  pointwise [val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105]
  have q (o : Nat) : padSeq x1 b (glane 3 l) (o + t.val + 0) = padSeq x1 b (glane 3 l) (t.val + 8 - 8 + o) :=
    congrArg _ (by omega)
  have q0 : padSeq x1 b (glane 3 l) (t.val + 0) = padSeq x1 b (glane 3 l) (t.val + 8 - 8 + 0) := congrArg _ (by omega)
  simp only [pad3_read, q, q0]
  unfold total
  simp only [Nat.reduceMul, Finset.sum_range_succ, Finset.sum_range_zero, zero_add]

/-- The two ways of counting group 3's window are equal at every place. -/
theorem word3 : ∀ t : Fin 2048,
    IntOp.subi (IntOp.minsi 2048#32 (IntOp.maxsi 0#32 (IntOp.subi (IntOp.addi (BitVec.ofNat 32 t.val) 16#32) 8#32)))
        (IntOp.minsi 2048#32 (IntOp.maxsi 0#32 (IntOp.subi (BitVec.ofNat 32 t.val) 8#32)))
      = IntOp.subi (IntOp.minsi (IntOp.addi (BitVec.ofNat 32 t.val) (BitVec.ofNat 32 8)) 2048#32)
          (IntOp.maxsi (IntOp.subi (BitVec.ofNat 32 t.val) (BitVec.ofNat 32 8)) 0#32) := by
  decide +kernel

/-- Group 3's window mean. -/
theorem mean3_read (l : Fin 128) :
    val_main_v141 (F := Ideal) x1 (ix3 b t l) = Ideal.div (total (padSeq x1 b (glane 3 l)) 8 (t.val + 8)) (count 8 t.val) := by
  unfold val_main_v141
  pointwise [val_main_v140, val_main_v139, val_main_v138, val_main_v137, val_main_v136, val_main_v96, val_main_v101, val_main_call9_v0, val_main_call9_v1, val_main_call9_v2, val_main_call9_v3, val_main_call9_v4, val_main_call10_v0, val_main_call10_v1, val_main_call10_v2, val_main_call10_v3, val_main_call10_v4, val_main_v94, val_main_v95, val_main_v97, val_main_v98, val_main_v99, val_main_v100, val_main_c_25, val_main_c_26, val_main_c_27, val_main_c_28, val_main_c_29, val_main_c_30, val_main_c_31, val_main_v17]
  rw [sum3_read]
  exact congrArg (Ideal.div _) (congrArg (FloatOps.sitofp (F := Ideal) FTy.f32) (word3 t))

end Cert.Mix
-- ==== Proof.MixRef.lean ====
/- The mixing reference's three results, element by element. -/
module

public import proofs.«01_k».proof.Proof.Gen.Reference2Ideal.Read
public import proofs.«01_k».proof.Proof.MixRefPool

@[expose] public section

set_option maxRecDepth 16384

noncomputable section

namespace Cert.Mix

open Idealize.ShloMosaic Cert.Reference2Ideal Cert.Reference2Ideal.Gen Cert.Reference2Ideal.Read Idealize.ShloMosaic.TcCoe Idealize.SL.Sem

variable (x0 : (⟨S16x2048x1024, .f32⟩ : BufTy).Contents (Elt Ideal)) (x1 : (⟨S16x2048x512, .f32⟩ : BufTy).Contents (Elt Ideal))
  (x2 : (⟨S16x2048x512, .bf16⟩ : BufTy).Contents (Elt Ideal)) (x3 : (⟨S1x1024, .f32⟩ : BufTy).Contents (Elt Ideal))
  (x4 : (⟨S1x1024x2048, .f32⟩ : BufTy).Contents (Elt Ideal)) (x5 : (⟨S1x2048, .f32⟩ : BufTy).Contents (Elt Ideal))
  (x6 : (⟨S1x4x128x128, .f32⟩ : BufTy).Contents (Elt Ideal)) (x7 : (⟨S1x512, .f32⟩ : BufTy).Contents (Elt Ideal))
  (x8 : (⟨S1x2x512x1024, .f32⟩ : BufTy).Contents (Elt Ideal)) (x9 : (⟨S1x1024x1024, .f32⟩ : BufTy).Contents (Elt Ideal))
  (x10 : (⟨S1x1024, .f32⟩ : BufTy).Contents (Elt Ideal)) (b : Fin 16) (t : Fin 2048)

/-- The first normalised row. -/
theorem norm1_read (k : Fin 1024) :
    val_main_v13 (F := Ideal) x0 x3 (ix3 b t k) = norm (fun k => x0 (ix3 b t k)) (fun k => x3 (ix2 0 k)) k := by
  unfold val_main_v13
  pointwise [val_main_v10, val_main_v9, val_main_v8, val_main_v7, val_main_v6, val_main_v5, val_main_v4, val_main_v3, val_main_v2,
    val_main_v1, val_main_v12, val_main_v11, val_main_v0, val_main_cst, val_main_cst_0, val_main_cst_1]
  rfl

/-- What is pooled: each group's window mean less its centre. -/
theorem mix_read (g : Fin 4) (l : Fin 128) :
    val_main_v147 (F := Ideal) x1 (ix4 b t g l) = mixed (padSeq x1 b (glane g l)) (half g) t.val (t.val + 8) := by
  unfold val_main_v147
  pointwise [val_main_v146, val_main_v145, val_main_v144, val_main_v143, val_main_v142, val_main_v16]
  have c : mixed (padSeq x1 b (glane g l)) (half g) t.val (t.val + 8)
      = Ideal.div (total (padSeq x1 b (glane g l)) (half g) (t.val + 8)) (count (half g) t.val) - x1 (ix3 b t (glane g l)) := by
    unfold mixed
    congr 1
    unfold padSeq
    exact dif_pos (by omega)
  rw [c]
  show _ - x1 (ix3 b t (glane g l)) = _
  congr 1
  fin_cases g
  · exact mean0_read x1 b t l
  · exact mean1_read x1 b t l
  · exact mean2_read x1 b t l
  · exact mean3_read x1 b t l

theorem pooled_read (j : Fin 512) : val_main_v153 (F := Ideal) x1 x6 x7 (ix3 b t j)
    = pooled (fun g l => mixed (padSeq x1 b (glane g l)) (half g) t.val (t.val + 8)) (fun g x k => x6 (ix4 0 g x k)) (fun j => x7 (ix2 0 j)) j := by
  unfold val_main_v153
  pointwise [val_main_v152, val_main_v151, val_main_v15, val_main_v150, val_main_v149, val_main_v148, val_main_v14]
  simp only [mix_read]
  unfold pooled
  congr 1
  exact Finset.sum_congr rfl fun x _ => mul_comm _ _

theorem gate_read (j : Fin 2048) : val_main_v165 (F := Ideal) x0 x3 x4 x5 (ix3 b t j)
    = gate (norm (fun k => x0 (ix3 b t k)) (fun k => x3 (ix2 0 k))) (fun k j => x4 (ix3 0 k j)) (fun j => x5 (ix2 0 j)) j := by
  unfold val_main_v165
  pointwise [val_main_v164, val_main_v163, val_main_v162, val_main_v161, val_main_v160, val_main_v159, val_main_v158, val_main_v157, val_main_v156, val_main_v155, val_main_v154,
    val_main_cst_33, val_main_cst_34]
  simp only [norm1_read]
  rfl

theorem row_read (j : Fin 1024) : val_main_v183 (F := Ideal) x0 x1 x2 x3 x4 x5 x6 x7 x8 x9 (ix3 b t j)
    = mixRow x0 x1 x2 x3 x4 x5 x6 x7 x8 x9 b t j := by
  unfold val_main_v183
  pointwise [val_main_v182, val_main_v181, val_main_v180, val_main_v179, val_main_v178, val_main_v177, val_main_v176, val_main_v175, val_main_v174,
    val_main_v173, val_main_v172, val_main_v171, val_main_v170, val_main_v169, val_main_v168, val_main_v167, val_main_v166]
  simp only [gate_read, pooled_read]
  rfl

theorem norm2_read (k : Fin 1024) :
    val_main_v197 (F := Ideal) x0 x1 x2 x3 x4 x5 x6 x7 x8 x9 x10 (ix3 b t k) = norm (mixRow x0 x1 x2 x3 x4 x5 x6 x7 x8 x9 b t) (fun k => x10 (ix2 0 k)) k := by
  unfold val_main_v197
  pointwise [val_main_v194, val_main_v193, val_main_v192, val_main_v191, val_main_v190, val_main_v189, val_main_v188, val_main_v187, val_main_v186,
    val_main_v185, val_main_v196, val_main_v195, val_main_v184, val_main_cst_35, val_main_cst_36, val_main_cst_37]
  simp only [row_read]
  rfl

theorem out0_read (n : Fin 32768) (j : Fin 1024) : val_main_v198 (F := Ideal) x0 x1 x2 x3 x4 x5 x6 x7 x8 x9 (ix2 n j)
    = mixRow x0 x1 x2 x3 x4 x5 x6 x7 x8 x9 ⟨n.val / 2048, by omega⟩ ⟨n.val % 2048, by omega⟩ j := by
  unfold val_main_v198
  pointwise
  rw [row_read]

theorem out1_read (n : Fin 32768) (j : Fin 1024) : val_main_v200 (F := Ideal) x0 x1 x2 x3 x4 x5 x6 x7 x8 x9 x10 (ix2 n j)
    = norm (mixRow x0 x1 x2 x3 x4 x5 x6 x7 x8 x9 ⟨n.val / 2048, by omega⟩ ⟨n.val % 2048, by omega⟩) (fun k => x10 (ix2 0 k)) j := by
  unfold val_main_v200
  pointwise [val_main_v199]
  rw [norm2_read]

theorem out2_read (n : Fin 32768) (s : Fin 8) (l : Fin 128) : val_main_v201 (F := Ideal) x0 x1 x2 x3 x4 x5 x6 x7 x8 x9 x10 (ix3 n s l)
    = norm (mixRow x0 x1 x2 x3 x4 x5 x6 x7 x8 x9 ⟨n.val / 2048, by omega⟩ ⟨n.val % 2048, by omega⟩) (fun k => x10 (ix2 0 k))
      ⟨s.val * 128 + l.val, by omega⟩ := by
  unfold val_main_v201
  pointwise
  rw [norm2_read]

end Cert.Mix
-- ==== Proof.MixPool.lean ====
/- The mixing kernel's sliding window sums and its pooled branch, element by element. -/
module

public import proofs.«01_k».proof.Proof.Gen.Kernel2Ideal.Frame
public import proofs.«01_k».proof.Proof.MixSpec

@[expose] public section

set_option maxRecDepth 16384

noncomputable section

namespace Cert.Mix

open Idealize.ShloMosaic Cert.Kernel2Ideal Cert.Kernel2Ideal.Gen Idealize.ShloMosaic.TcCoe Idealize.SL.Sem

abbrev Halo := FVec Ideal S272x128 .f32

/-- The sums of 2, 4, 8 and 16 rows that the kernel builds by rotating. -/
def sum2 (v : Halo) : Halo := addf v (dynamicRotate 0 1#32 none v rotates_S272x128_d0)
def sum4 (v : Halo) : Halo :=
  addf (dynamicRotate 0 271#32 none (sum2 v) rotates_S272x128_d0) (dynamicRotate 0 1#32 none (sum2 v) rotates_S272x128_d0)
def sum8 (v : Halo) : Halo :=
  addf (dynamicRotate 0 270#32 none (sum4 v) rotates_S272x128_d0) (dynamicRotate 0 2#32 none (sum4 v) rotates_S272x128_d0)
def sum16 (v : Halo) : Halo :=
  addf (dynamicRotate 0 268#32 none (sum8 v) rotates_S272x128_d0) (dynamicRotate 0 4#32 none (sum8 v) rotates_S272x128_d0)

variable (v : Halo) (l : Fin 128) (e : Nat → EReal) (he : ∀ r : Fin 272, v (ix2 r l) = e r.val)

include he

theorem sum2_at (p : Nat) (h1 : 1 ≤ p) (h2 : p < 272) : sum2 v (ix2 ⟨p, h2⟩ l) = e p + e (p - 1) := by
  pointwise [sum2]
  rw [he, he]
  congr 2
  show (p + 272 - 1) % 272 = _
  omega

theorem sum4_at (p : Nat) (h1 : 2 ≤ p) (h2 : p < 271) :
    sum4 v (ix2 ⟨p, by omega⟩ l) = (e (p + 1) + e p) + (e (p - 1) + e (p - 2)) := by
  pointwise [sum4]
  have a : (⟨(p + 272 - 271) % 272, by omega⟩ : Fin 272) = ⟨p + 1, by omega⟩ := Fin.ext (by show _ % 272 = p + 1; omega)
  have b : (⟨(p + 272 - 1) % 272, by omega⟩ : Fin 272) = ⟨p - 1, by omega⟩ := Fin.ext (by show _ % 272 = p - 1; omega)
  rw [a, b, sum2_at v l e he _ (by omega), sum2_at v l e he _ (by omega)]
  rfl

theorem sum8_at (p : Nat) (h1 : 4 ≤ p) (h2 : p < 269) :
    sum8 v (ix2 ⟨p, by omega⟩ l) = ((e (p + 3) + e (p + 2)) + (e (p + 1) + e p))
      + ((e (p - 1) + e (p - 2)) + (e (p - 3) + e (p - 4))) := by
  pointwise [sum8]
  have a : (⟨(p + 272 - 270) % 272, by omega⟩ : Fin 272) = ⟨p + 2, by omega⟩ := Fin.ext (by show _ % 272 = p + 2; omega)
  have b : (⟨(p + 272 - 2) % 272, by omega⟩ : Fin 272) = ⟨p - 2, by omega⟩ := Fin.ext (by show _ % 272 = p - 2; omega)
  rw [a, b, sum4_at v l e he _ (by omega) (by omega), sum4_at v l e he _ (by omega) (by omega)]
  simp only [Nat.add_assoc, Nat.reduceAdd, Nat.sub_sub, Nat.add_sub_cancel]
  rw [show p + 2 - 1 = p + 1 by omega, show p - 2 + 1 = p - 1 by omega]

theorem sum16_at (p : Nat) (h1 : 8 ≤ p) (h2 : p < 265) :
    sum16 v (ix2 ⟨p, by omega⟩ l) = (((e (p + 7) + e (p + 6)) + (e (p + 5) + e (p + 4)))
        + ((e (p + 3) + e (p + 2)) + (e (p + 1) + e p)))
      + (((e (p - 1) + e (p - 2)) + (e (p - 3) + e (p - 4)))
        + ((e (p - 5) + e (p - 6)) + (e (p - 7) + e (p - 8)))) := by
  pointwise [sum16]
  have a : (⟨(p + 272 - 268) % 272, by omega⟩ : Fin 272) = ⟨p + 4, by omega⟩ := Fin.ext (by show _ % 272 = p + 4; omega)
  have b : (⟨(p + 272 - 4) % 272, by omega⟩ : Fin 272) = ⟨p - 4, by omega⟩ := Fin.ext (by show _ % 272 = p - 4; omega)
  rw [a, b, sum8_at v l e he _ (by omega) (by omega), sum8_at v l e he _ (by omega) (by omega)]
  simp only [Nat.add_assoc, Nat.reduceAdd, Nat.sub_sub, Nat.add_sub_cancel]
  rw [show p + 4 - 1 = p + 3 by omega, show p + 4 - 2 = p + 2 by omega, show p + 4 - 3 = p + 1 by omega,
    show p - 4 + 3 = p - 1 by omega, show p - 4 + 2 = p - 2 by omega, show p - 4 + 1 = p - 3 by omega]

omit he in
theorem total1 (p : Nat) (h : 1 ≤ p) : e p + e (p - 1) = total e 1 p := by
  unfold total
  simp only [Nat.mul_one, Finset.sum_range_succ, Finset.sum_range_zero, zero_add, Nat.add_zero]
  rw [show p - 1 + 1 = p by omega, add_comm]

omit he in
theorem total2 (p : Nat) (h : 2 ≤ p) : (e (p + 1) + e p) + (e (p - 1) + e (p - 2)) = total e 2 p := by
  unfold total
  simp only [Nat.reduceMul, Finset.sum_range_succ, Finset.sum_range_zero, zero_add, Nat.add_zero]
  rw [show p - 2 + 1 = p - 1 by omega, show p - 2 + 2 = p by omega, show p - 2 + 3 = p + 1 by omega]
  ac_rfl

omit he in
theorem total4 (p : Nat) (h : 4 ≤ p) : ((e (p + 3) + e (p + 2)) + (e (p + 1) + e p))
      + ((e (p - 1) + e (p - 2)) + (e (p - 3) + e (p - 4))) = total e 4 p := by
  unfold total
  simp only [Nat.reduceMul, Finset.sum_range_succ, Finset.sum_range_zero, zero_add, Nat.add_zero]
  rw [show p - 4 + 1 = p - 3 by omega, show p - 4 + 2 = p - 2 by omega, show p - 4 + 3 = p - 1 by omega,
    show p - 4 + 4 = p by omega, show p - 4 + 5 = p + 1 by omega, show p - 4 + 6 = p + 2 by omega,
    show p - 4 + 7 = p + 3 by omega]
  ac_rfl

omit he in
theorem total8 (p : Nat) (h : 8 ≤ p) : (((e (p + 7) + e (p + 6)) + (e (p + 5) + e (p + 4)))
        + ((e (p + 3) + e (p + 2)) + (e (p + 1) + e p)))
      + (((e (p - 1) + e (p - 2)) + (e (p - 3) + e (p - 4)))
        + ((e (p - 5) + e (p - 6)) + (e (p - 7) + e (p - 8)))) = total e 8 p := by
  unfold total
  simp only [Nat.reduceMul, Finset.sum_range_succ, Finset.sum_range_zero, zero_add, Nat.add_zero]
  rw [show p - 8 + 1 = p - 7 by omega, show p - 8 + 2 = p - 6 by omega, show p - 8 + 3 = p - 5 by omega,
    show p - 8 + 4 = p - 4 by omega, show p - 8 + 5 = p - 3 by omega, show p - 8 + 6 = p - 2 by omega,
    show p - 8 + 7 = p - 1 by omega, show p - 8 + 8 = p by omega, show p - 8 + 9 = p + 1 by omega,
    show p - 8 + 10 = p + 2 by omega, show p - 8 + 11 = p + 3 by omega, show p - 8 + 12 = p + 4 by omega,
    show p - 8 + 13 = p + 5 by omega, show p - 8 + 14 = p + 6 by omega, show p - 8 + 15 = p + 7 by omega]
  ac_rfl

omit he

variable (T : BitVec 32) (u0 : FVec Ideal S8x512 .f32) (b : BitVec 1) (u2 : FVec Ideal S8x512 .f32) (u1 : Vec Ideal S256x512 .f32)
  (W : Vec Ideal S1x128x128 .bf16) (r : Fin 256) (k : Fin 128)

/-- The rows of the block and of its two neighbours, in order. -/
def halo (j : Fin 512) (p : Nat) : EReal := if h : p < 272 then k0_pay6 (F := Ideal) u0 b u2 u1 (ix2 ⟨p, h⟩ j) else 0

theorem halo_eq (j : Fin 512) (p : Fin 272) : k0_pay6 (F := Ideal) u0 b u2 u1 (ix2 p j) = halo u0 b u2 u1 j p.val := by
  unfold halo
  rw [dif_pos p.isLt]

/-- One group of the pooled branch: the window's sum over the window's size, less the centre, through the group's matrix. -/
def poolGroup (s v : Halo) (h : BitVec 32) (pos : IVec S256x1 32) (W : Vec Ideal S1x128x128 .bf16) : FVec Ideal S256x128 .f32 :=
  matmul dot_S256x128_S128x128_S256x128_1_0_0_1_n_n none
    (truncf .bf16 (subf (divf (extractStridedSlice S256x128 ![8, 0] s slices_S272x128_o8_0_S256x128)
        (broadcastTo S256x128 (sitofp .f32 (subi (minsi (addi pos (broadcast S256x1 h)) (broadcast S256x1 2048#32))
            (maxsi (subi pos (broadcast S256x1 h)) (broadcast S256x1 0#32)))) broadcasts_S256x1_S256x128))
      (extractStridedSlice S256x128 ![8, 0] v slices_S272x128_o8_0_S256x128)) bitsLt_bf16_f32)
    (shapeCast S128x128 W shapeCasts_S1x128x128_S128x128 : FVec Ideal S128x128 .bf16) (constant S256x128 .f32 0x00000000#32)

theorem poolGroup_at (s v : Halo) (h : Nat) (pos : IVec S256x1 32) (t : Nat) (ht : pos (ix2 r 0) = BitVec.ofNat 32 t)
    (E : Fin 128 → Nat → EReal) (hs : ∀ x, s (ix2 ⟨8 + r.val, by omega⟩ x) = total (E x) h (8 + r.val))
    (hv : ∀ x, v (ix2 ⟨8 + r.val, by omega⟩ x) = E x (8 + r.val)) :
    poolGroup s v (BitVec.ofNat 32 h) pos W (ix2 r k) = ∑ x : Fin 128, mixed (E x) h t (8 + r.val) * W (ix3 0 x k) := by
  pointwise [poolGroup]
  refine Finset.sum_congr rfl fun x _ => ?_
  rw [ht, hs, hv]
  rfl

/-- The four groups side by side, scaled. -/
def scaled (a b c d : FVec Ideal S256x128 .f32) (ps : Vec Ideal S1x512 .f32) : FVec Ideal S256x512 .f32 :=
  mulf (concatenate S256x512 1 [⟨S256x128, a⟩, ⟨S256x128, b⟩, ⟨S256x128, c⟩, ⟨S256x128, d⟩]
      concatenates_S256x128_S256x128_S256x128_S256x128_S256x512_d1)
    (broadcastTo S256x512 (shapeCast S1x512 ps shapeCasts_S1x512_S1x512) broadcasts_S1x512_S256x512)

theorem scaled_at (a b c d : FVec Ideal S256x128 .f32) (ps : Vec Ideal S1x512 .f32) (r : Fin 256) (j : Fin 512) :
    scaled a b c d ps (ix2 r j) = (match grp j with | 0 => a | 1 => b | 2 => c | 3 => d) (ix2 r (lane j)) * ps (ix2 0 j) := by
  pointwise [scaled]
  congr 1
  have hj := j.isLt
  unfold grp lane
  obtain h | h | h | h : j.val / 128 = 0 ∨ j.val / 128 = 1 ∨ j.val / 128 = 2 ∨ j.val / 128 = 3 := by omega
  · rw [dif_pos (by omega)]
    simp only [h]
    exact congrArg a (congrArg (ix2 r) (Fin.ext (by show j.val = j.val % 128; omega)))
  · rw [dif_neg (by omega), dif_pos (by omega)]
    simp only [h]
    exact congrArg b (congrArg (ix2 r) (Fin.ext (by show j.val - 128 = j.val % 128; omega)))
  · rw [dif_neg (by omega), dif_neg (by omega), dif_pos (by omega)]
    simp only [h]
    exact congrArg c (congrArg (ix2 r) (Fin.ext (by show j.val - 128 - 128 = j.val % 128; omega)))
  · rw [dif_neg (by omega), dif_neg (by omega), dif_neg (by omega)]
    simp only [h]
    exact congrArg d (congrArg (ix2 r) (Fin.ext (by show j.val - 128 - 128 - 128 = j.val % 128; omega)))

/-- The lanes of a group, out of the rows of the block and its neighbours. -/
def lanes0 (ue : FVec Ideal S272x512 .f32) : Halo := extractStridedSlice S272x128 ![0, 0] ue slices_S272x512_o0_0_S272x128
def lanes1 (ue : FVec Ideal S272x512 .f32) : Halo := extractStridedSlice S272x128 ![0, 128] ue slices_S272x512_o0_128_S272x128
def lanes2 (ue : FVec Ideal S272x512 .f32) : Halo := extractStridedSlice S272x128 ![0, 256] ue slices_S272x512_o0_256_S272x128
def lanes3 (ue : FVec Ideal S272x512 .f32) : Halo := extractStridedSlice S272x128 ![0, 384] ue slices_S272x512_o0_384_S272x128

/-- The kernel's pooled branch is the four groups. -/
theorem pay16_eq (W0 W1 W2 W3 : Vec Ideal S1x128x128 .bf16) (ps : Vec Ideal S1x512 .f32) :
    k0_pay16 (k0_pay7 T) (k0_pay8 T u0 b u2 u1 W0)
        (k0_pay13 (k0_pay9 u0 b u2 u1) (k0_pay10 u0 b u2 u1) (k0_pay11 T) (k0_pay12 T) W1)
        (k0_pay14 (k0_pay6 u0 b u2 u1) (k0_pay7 T) W2) (k0_pay15 (k0_pay6 u0 b u2 u1)) W3 ps
      = scaled
          (poolGroup (sum2 (lanes0 (k0_pay6 u0 b u2 u1))) (lanes0 (k0_pay6 u0 b u2 u1)) (BitVec.ofNat 32 1) (k0_pay7 T) W0)
          (poolGroup (sum4 (lanes1 (k0_pay6 u0 b u2 u1))) (lanes1 (k0_pay6 u0 b u2 u1)) (BitVec.ofNat 32 2) (k0_pay7 T) W1)
          (poolGroup (sum8 (lanes2 (k0_pay6 u0 b u2 u1))) (lanes2 (k0_pay6 u0 b u2 u1)) (BitVec.ofNat 32 4) (k0_pay7 T) W2)
          (poolGroup (sum16 (lanes3 (k0_pay6 u0 b u2 u1))) (lanes3 (k0_pay6 u0 b u2 u1)) (BitVec.ofNat 32 8) (k0_pay7 T) W3) ps :=
  rfl

theorem lanes0_at (p : Fin 272) (x : Fin 128) : lanes0 (k0_pay6 u0 b u2 u1) (ix2 p x) = halo u0 b u2 u1 (glane 0 x) p.val := by
  pointwise [lanes0]
  rw [halo_eq]
  exact congrArg (fun j => halo u0 b u2 u1 j p.val) (Fin.ext (by show x.val = 0 * 128 + x.val; omega))
theorem lanes1_at (p : Fin 272) (x : Fin 128) : lanes1 (k0_pay6 u0 b u2 u1) (ix2 p x) = halo u0 b u2 u1 (glane 1 x) p.val := by
  pointwise [lanes1]
  rw [halo_eq]
  exact congrArg (fun j => halo u0 b u2 u1 j p.val) (Fin.ext (by show 128 + x.val = 1 * 128 + x.val; omega))
theorem lanes2_at (p : Fin 272) (x : Fin 128) : lanes2 (k0_pay6 u0 b u2 u1) (ix2 p x) = halo u0 b u2 u1 (glane 2 x) p.val := by
  pointwise [lanes2]
  rw [halo_eq]
  exact congrArg (fun j => halo u0 b u2 u1 j p.val) (Fin.ext (by show 256 + x.val = 2 * 128 + x.val; omega))
theorem lanes3_at (p : Fin 272) (x : Fin 128) : lanes3 (k0_pay6 u0 b u2 u1) (ix2 p x) = halo u0 b u2 u1 (glane 3 x) p.val := by
  pointwise [lanes3]
  rw [halo_eq]
  exact congrArg (fun j => halo u0 b u2 u1 j p.val) (Fin.ext (by show 384 + x.val = 3 * 128 + x.val; omega))

/-- The kernel's pooled branch at row `r`, lane `j`. -/
theorem pay16_at (W0 W1 W2 W3 : Vec Ideal S1x128x128 .bf16) (ps : Vec Ideal S1x512 .f32) (j : Fin 512) (t : Nat)
    (ht : IntOp.addi T (BitVec.ofNat 32 r.val) = BitVec.ofNat 32 t) :
    k0_pay16 (k0_pay7 T) (k0_pay8 T u0 b u2 u1 W0)
        (k0_pay13 (k0_pay9 u0 b u2 u1) (k0_pay10 u0 b u2 u1) (k0_pay11 T) (k0_pay12 T) W1)
        (k0_pay14 (k0_pay6 u0 b u2 u1) (k0_pay7 T) W2) (k0_pay15 (k0_pay6 u0 b u2 u1)) W3 ps (ix2 r j)
      = pooled (fun g x => mixed (halo u0 b u2 u1 (glane g x)) (half g) t (8 + r.val))
          (fun g x k => (match g with | 0 => W0 | 1 => W1 | 2 => W2 | 3 => W3) (ix3 0 x k)) (fun j => ps (ix2 0 j)) j := by
  have hp : k0_pay7 T (ix2 r 0) = BitVec.ofNat 32 t := by
    rw [← ht]
    pointwise [k0_pay7]
  have hr := r.isLt
  rw [pay16_eq, scaled_at]
  unfold pooled
  congr 1
  generalize grp j = g
  generalize lane j = k
  fin_cases g
  · refine (poolGroup_at W0 r k _ _ 1 _ t hp (fun x => halo u0 b u2 u1 (glane 0 x)) (fun x => ?_) fun x => lanes0_at ..)
    rw [sum2_at _ x _ (fun p => lanes0_at u0 b u2 u1 p x) _ (by omega), total1 _ _ (by omega)]
  · refine (poolGroup_at W1 r k _ _ 2 _ t hp (fun x => halo u0 b u2 u1 (glane 1 x)) (fun x => ?_) fun x => lanes1_at ..)
    rw [sum4_at _ x _ (fun p => lanes1_at u0 b u2 u1 p x) _ (by omega) (by omega), total2 _ _ (by omega)]
  · refine (poolGroup_at W2 r k _ _ 4 _ t hp (fun x => halo u0 b u2 u1 (glane 2 x)) (fun x => ?_) fun x => lanes2_at ..)
    rw [sum8_at _ x _ (fun p => lanes2_at u0 b u2 u1 p x) _ (by omega) (by omega), total4 _ _ (by omega)]
  · refine (poolGroup_at W3 r k _ _ 8 _ t hp (fun x => halo u0 b u2 u1 (glane 3 x)) (fun x => ?_) fun x => lanes3_at ..)
    rw [sum16_at _ x _ (fun p => lanes3_at u0 b u2 u1 p x) _ (by omega) (by omega), total8 _ _ (by omega)]

end Cert.Mix
-- ==== Proof.MixOut.lean ====
/- The mixing kernel's output blocks, as the layer on each row of the point's input blocks. -/
module

public import proofs.«01_k».proof.Proof.MixPool
public import Idealize.ShloMosaic.Lib.Pipeline.ValueKit

@[expose] public section

set_option maxRecDepth 16384

noncomputable section

namespace Cert.Mix

open Idealize.ShloMosaic Cert.Kernel2Ideal Cert.Kernel2Ideal.Gen Idealize.ShloMosaic.TcCoe Idealize.SL.Sem

theorem zero2 : (![0, 0] : Fin 2 → Nat) = fun _ => 0 := by
  funext i
  fin_cases i <;> rfl

/-- The place in its sequence of the first row of block `n`, as the kernel computes it. -/
def startWord (n : Nat) : BitVec 32 :=
  Scalar.select (Scalar.andi (Scalar.xori (Scalar.cmpi .slt (Scalar.remsi (Scalar.muli (BitVec.ofNat 32 n) 256#32) (Scalar.select (Scalar.cmpi .eq 2048#32 0#32) 1#32 2048#32)) 0#32) (Scalar.cmpi .slt (Scalar.select (Scalar.cmpi .eq 2048#32 0#32) 1#32 2048#32) 0#32)) (Scalar.cmpi .ne (Scalar.remsi (Scalar.muli (BitVec.ofNat 32 n) 256#32) (Scalar.select (Scalar.cmpi .eq 2048#32 0#32) 1#32 2048#32)) 0#32)) (Scalar.addi (Scalar.remsi (Scalar.muli (BitVec.ofNat 32 n) 256#32) (Scalar.select (Scalar.cmpi .eq 2048#32 0#32) 1#32 2048#32)) (Scalar.select (Scalar.cmpi .eq 2048#32 0#32) 1#32 2048#32)) (Scalar.remsi (Scalar.muli (BitVec.ofNat 32 n) 256#32) (Scalar.select (Scalar.cmpi .eq 2048#32 0#32) 1#32 2048#32))

/-- Whether the block has one after it in its sequence, as the kernel computes it. -/
def moreWord (n : Nat) : BitVec 1 := Scalar.cmpi .slt (Scalar.addi (startWord n) 256#32) 2048#32

theorem start_eq : ∀ n : Fin 128, startWord n.val = BitVec.ofNat 32 (n.val % 8 * 256) := by decide +kernel
theorem first_eq : ∀ n : Fin 128, Scalar.cmpi .sgt (startWord n.val) 0#32 = if n.val % 8 = 0 then 0#1 else 1#1 := by decide +kernel
theorem more_eq : ∀ n : Fin 128, moreWord n.val = if n.val % 8 = 7 then 0#1 else 1#1 := by decide +kernel

variable (n : Fin 128) (x0 : Vec Ideal S256x1024 .f32) (x1 : Vec Ideal S256x512 .f32) (x2 : Vec Ideal S8x512 .f32) (x3 : Vec Ideal S8x512 .f32) (x4 : Vec Ideal S256x512 .bf16) (x5 : Vec Ideal S1x1024 .f32) (x6 : Vec Ideal S1024x2048 .bf16) (x7 : Vec Ideal S1x2048 .f32) (x8 : Vec Ideal S4x128x128 .bf16) (x9 : Vec Ideal S1x512 .f32) (x10 : Vec Ideal S2x512x1024 .bf16) (x11 : Vec Ideal S1024x1024 .bf16) (x12 : Vec Ideal S1x1024 .f32)

/-- A lane of the block's rows with eight rows of each neighbour, zero outside the sequence. -/
def rowsAround (j : Fin 512) (p : Nat) : EReal :=
  if h : p < 8 then (if n.val % 8 = 0 then 0 else x2 (ix2 ⟨p, h⟩ j))
  else if h : p - 8 < 256 then x1 (ix2 ⟨p - 8, h⟩ j)
  else if h : p - 8 - 256 < 8 then (if n.val % 8 = 7 then 0 else x3 (ix2 ⟨p - 8 - 256, h⟩ j)) else 0

theorem halo_at (i : grid0.Coords) (hi : (i 0).val = n.val) (j : Fin 512) :
    halo (k0_pay4 i x2) (moreWord n.val) (k0_pay5 x3) x1 j = rowsAround n x1 x2 x3 j := by
  funext p
  unfold halo rowsAround
  by_cases hp : p < 272
  · rw [dif_pos hp]
    have a : ∀ q : Fin 8, k0_pay4 (F := Ideal) i x2 (ix2 q j) = if n.val % 8 = 0 then 0 else x2 (ix2 q j) := by
      intro q
      pointwise [k0_pay4]
      have := first_eq n
      rw [← hi] at this
      unfold startWord at this
      rw [this, hi]
      split <;> rfl
    pointwise [k0_pay6, k0_pay5]
    rw [more_eq]
    split
    · rw [a]
    · split
      · rfl
      · rw [dif_pos (by omega)]
        split <;> rfl
  · rw [dif_neg hp, dif_neg (by omega), dif_neg (by omega), dif_neg (by omega)]

/-- The layer on row `r` of the block. -/
def blockRow (r : Fin 256) : Fin 1024 → EReal :=
  rowOut (fun k => x0 (ix2 r k)) (fun k => x5 (ix2 0 k)) (fun k j => x6 (ix2 k j)) (fun j => x7 (ix2 0 j))
    (fun c => x4 (ix2 r c))
    (fun g x => mixed (rowsAround n x1 x2 x3 (glane g x)) (half g) (n.val % 8 * 256 + r.val) (8 + r.val))
    (fun g x k => x8 (ix3 g x k)) (fun j => x9 (ix2 0 j)) (fun b c k => x10 (ix3 b c k)) (fun k j => x11 (ix2 k j))

theorem pool_word (g : Fin 4) (h : ∀ a, (![g.val, 0, 0] : Fin 3 → Nat) a + S1x128x128.size a ≤ S4x128x128.size a) (x k : Fin 128) :
    View.ld (e' := .bf16) (Val := Elt Ideal) x8 (Rect.unit (s := S4x128x128) ![g.val, 0, 0] S1x128x128.size h) (ix3 0 x k) = x8 (ix3 g x k) := by
  unfold View.ld
  congr 1
  funext a
  fin_cases a <;> exact Fin.ext (by simp [Rect.emb])

variable (i : grid0.Coords) (hi : (i 0).val = n.val)
include hi

theorem pool_at (r : Fin 256) (j : Fin 512) :
    k0_pay33 (F := Ideal) i x0 x1 x2 x3 x4 x5 x6 x7 x8 x9 x10 x11 x12 (ix2 r j)
      = pooled (fun g x => mixed (rowsAround n x1 x2 x3 (glane g x)) (half g) (n.val % 8 * 256 + r.val) (8 + r.val))
          (fun g x k => x8 (ix3 g x k)) (fun j => x9 (ix2 0 j)) j := by
  have e : k0_pay33 (F := Ideal) i x0 x1 x2 x3 x4 x5 x6 x7 x8 x9 x10 x11 x12
      = k0_pay16 (k0_pay7 (startWord (i 0).val))
          (k0_pay8 (startWord (i 0).val) (k0_pay4 i x2) (moreWord (i 0).val) (k0_pay5 x3) x1 (View.ld x8 r0_4))
          (k0_pay13 (k0_pay9 (k0_pay4 i x2) (moreWord (i 0).val) (k0_pay5 x3) x1) (k0_pay10 (k0_pay4 i x2) (moreWord (i 0).val) (k0_pay5 x3) x1)
            (k0_pay11 (startWord (i 0).val)) (k0_pay12 (startWord (i 0).val)) (View.ld x8 r0_5))
          (k0_pay14 (k0_pay6 (k0_pay4 i x2) (moreWord (i 0).val) (k0_pay5 x3) x1) (k0_pay7 (startWord (i 0).val)) (View.ld x8 r0_6))
          (k0_pay15 (k0_pay6 (k0_pay4 i x2) (moreWord (i 0).val) (k0_pay5 x3) x1)) (View.ld x8 r0_7) x9 := by
    unfold k0_pay33 k0_pay32 k0_pay31 k0_pay30 k0_pay29
    simp only [View.ld_unit_zero (S := S256x512) zero2, View.ld_unit_zero (S := S8x512) zero2, View.ld_unit_zero (S := S1x512) zero2]
    rfl
  rw [e, hi, pay16_at _ _ _ _ _ _ _ _ _ _ _ _ (n.val % 8 * 256 + r.val)
    (by rw [start_eq]; exact (BitVec.ofNat_add _ _).symm)]
  simp only [halo_at n x1 x2 x3 i hi]
  congr 1
  funext g x k
  fin_cases g
  · exact pool_word x8 0 _ x k
  · exact pool_word x8 1 _ x k
  · exact pool_word x8 2 _ x k
  · exact pool_word x8 3 _ x k

omit hi in
theorem gate_at (r : Fin 256) (j : Fin 2048) :
    k0_pay34 (F := Ideal) i x0 x1 x2 x3 x4 x5 x6 x7 x8 x9 x10 x11 x12 (ix2 r j)
      = ∑ k, norm (fun k => x0 (ix2 r k)) (fun k => x5 (ix2 0 k)) k * x6 (ix2 k j) := by
  unfold k0_pay34
  simp only [View.ld_unit_zero (S := S256x1024) zero2, View.ld_unit_zero (S := S1x1024) zero2, View.ld_unit_zero (S := S1024x2048) zero2]
  pointwise [k0_pay17, k0_pay3, k0_pay2]
  rfl

theorem out13_at (r : Fin 256) (j : Fin 1024) :
    out0_13 (F := Ideal) i x0 x1 x2 x3 x4 x5 x6 x7 x8 x9 x10 x11 x12 (ix2 r j)
      = blockRow n x0 x1 x2 x3 x4 x5 x6 x7 x8 x9 x10 x11 r j := by
  unfold out0_13 k0_pay28
  rw [View.canon_unit_zero zero2]
  simp only [View.ld_unit_zero (S := S256x1024) zero2, View.ld_unit_zero (S := S1x2048) zero2, View.ld_unit_zero (S := S1024x1024) zero2,
    View.ld_unit_zero (S := S256x512) zero2]
  pointwise [k0_pay18, k0_pay2]
  unfold blockRow rowOut merged gate
  congr 1
  refine Finset.sum_congr rfl fun k _ => ?_
  congr 1
  congr 1
  · congr 1
    · rw [gate_at]
      rfl
  · congr 1
    · rw [gate_at]
      rfl
    · exact Finset.sum_congr rfl fun c _ => congrArg₂ _ (pool_at n x0 x1 x2 x3 x4 x5 x6 x7 x8 x9 x10 x11 x12 i hi r c) rfl

/-- The normalised rows. -/
theorem second_at (r : Fin 256) (j : Fin 1024) :
    k0_pay35 (F := Ideal) i x0 x1 x2 x3 x4 x5 x6 x7 x8 x9 x10 x11 x12 (ix2 r j)
      = norm (blockRow n x0 x1 x2 x3 x4 x5 x6 x7 x8 x9 x10 x11 r) (fun k => x12 (ix2 0 k)) j := by
  have e : k0_pay35 (F := Ideal) i x0 x1 x2 x3 x4 x5 x6 x7 x8 x9 x10 x11 x12 = k0_pay19
      (k0_pay28 i x0 x1 x2 x3 x4 x5 x6 x7 x8 x9 x10 x11 x12) (k0_pay33 i x0 x1 x2 x3 x4 x5 x6 x7 x8 x9 x10 x11 x12)
      (k0_pay34 i x0 x1 x2 x3 x4 x5 x6 x7 x8 x9 x10 x11 x12) (View.ld x7 r0_10) (View.ld x4 r0_3) (View.ld x10 r0_11)
      (View.ld x10 r0_12) (View.ld x11 r0_13) x12 := by
    unfold k0_pay35
    rw [View.ld_unit_zero (S := S1x1024) zero2]
  have o : ∀ j, k0_pay18 (F := Ideal)
      (k0_pay28 i x0 x1 x2 x3 x4 x5 x6 x7 x8 x9 x10 x11 x12) (k0_pay33 i x0 x1 x2 x3 x4 x5 x6 x7 x8 x9 x10 x11 x12)
      (k0_pay34 i x0 x1 x2 x3 x4 x5 x6 x7 x8 x9 x10 x11 x12) (View.ld x7 r0_10) (View.ld x4 r0_3) (View.ld x10 r0_11)
      (View.ld x10 r0_12) (View.ld x11 r0_13) (ix2 r j) = blockRow n x0 x1 x2 x3 x4 x5 x6 x7 x8 x9 x10 x11 r j := by
    intro j
    rw [← out13_at n x0 x1 x2 x3 x4 x5 x6 x7 x8 x9 x10 x11 x12 i hi]
    unfold out0_13
    rw [View.canon_unit_zero zero2]
  rw [e]
  pointwise [k0_pay19]
  simp only [o]
  rfl

theorem out14_at (r : Fin 256) (j : Fin 1024) :
    out0_14 (F := Ideal) i x0 x1 x2 x3 x4 x5 x6 x7 x8 x9 x10 x11 x12 (ix2 r j)
      = norm (blockRow n x0 x1 x2 x3 x4 x5 x6 x7 x8 x9 x10 x11 r) (fun k => x12 (ix2 0 k)) j := by
  unfold out0_14
  rw [View.canon_unit_zero zero2]
  pointwise [k0_pay20]
  exact second_at n x0 x1 x2 x3 x4 x5 x6 x7 x8 x9 x10 x11 x12 i hi r j

theorem out15_at (r : Fin 256) (s : Fin 8) (l : Fin 128) :
    out0_15 (F := Ideal) i x0 x1 x2 x3 x4 x5 x6 x7 x8 x9 x10 x11 x12 (ix3 r s l)
      = norm (blockRow n x0 x1 x2 x3 x4 x5 x6 x7 x8 x9 x10 x11 r) (fun k => x12 (ix2 0 k)) ⟨s.val * 128 + l.val, by omega⟩ := by
  obtain ⟨v, hv⟩ : ∃ v, v = norm (blockRow n x0 x1 x2 x3 x4 x5 x6 x7 x8 x9 x10 x11 r) (fun k => x12 (ix2 0 k)) ⟨s.val * 128 + l.val, by omega⟩ :=
    ⟨_, rfl⟩
  rw [← hv]
  have key : ∀ k : Nat, ∀ hk : k < 1024, k = s.val * 128 + l.val →
      k0_pay35 (F := Ideal) i x0 x1 x2 x3 x4 x5 x6 x7 x8 x9 x10 x11 x12 (ix2 r ⟨k, hk⟩) = v := by
    intro k hk e
    subst e
    exact (second_at n x0 x1 x2 x3 x4 x5 x6 x7 x8 x9 x10 x11 x12 i hi r _).trans hv.symm
  have hx : ∀ x : S256x1x128.Idx, r.val = (x 0).val → l.val = (x 2).val → x = ix3 r 0 l := by
    intro x a b
    have h1 : (x 1).val < 1 := (x 1).isLt
    funext d
    fin_cases d
    · exact Fin.ext a.symm
    · exact Fin.ext (by show (x 1).val = 0; omega)
    · exact Fin.ext b.symm
  clear hv
  unfold out0_15
  generalize k0_pay35 (F := Ideal) i x0 x1 x2 x3 x4 x5 x6 x7 x8 x9 x10 x11 x12 = w at key ⊢
  canon_tiles x h
  all_goals
    have hs : s.val = (ix3 r s l 1).val := rfl
    rw [hx x h0 h2]
    pointwise [k0_pay1, k0_pay21, k0_pay22, k0_pay23, k0_pay24, k0_pay25, k0_pay26, k0_pay27]
    exact key _ _ (by omega)

end Cert.Mix
-- ==== Proof.MixIn.lean ====
/- The mixing kernel's input blocks, element by element, and the layer on a block's row. -/
module

public import proofs.«01_k».proof.Proof.MixOut
public import Idealize.ShloMosaic.Lib.Claim

@[expose] public section

set_option maxRecDepth 16384

noncomputable section

namespace Cert.Mix

open Idealize.ShloMosaic Cert.Kernel2Ideal Cert.Kernel2Ideal.Gen Idealize.ShloMosaic.TcCoe Idealize.SL.Sem

variable (m : (ℓ : Loc nD τ sig) → Buf (Elt Ideal) ℓ) (c : Dev nD) (t : Fin cfg0.N)

/-- The block a grid point works on. -/
def block (t : Fin cfg0.N) : Fin 128 := ⟨((grid0.coords t) 0).val, ((grid0.coords t) 0).isLt⟩

/-- The windows' block indices at a grid point. -/
theorem idx_at : ∀ t : Fin cfg0.N,
    win0_0.index t = ![(block t).val, 0]
    ∧ win0_1.index t = ![(block t).val, 0]
    ∧ win0_2.index t = ![(block t).val * 32 - 1, 0]
    ∧ win0_3.index t = ![min ((block t).val * 32 + 32) 4095, 0]
    ∧ win0_4.index t = ![(block t).val, 0]
    ∧ win0_5.index t = ![0, 0]
    ∧ win0_6.index t = ![0, 0]
    ∧ win0_7.index t = ![0, 0]
    ∧ win0_8.index t = ![0, 0, 0]
    ∧ win0_9.index t = ![0, 0]
    ∧ win0_10.index t = ![0, 0, 0]
    ∧ win0_11.index t = ![0, 0]
    ∧ win0_12.index t = ![0, 0]
    ∧ win0_13.index t = ![(block t).val, 0]
    ∧ win0_14.index t = ![(block t).val, 0]
    ∧ win0_15.index t = ![(block t).val, 0, 0] :=
  (by decide +kernel : ∀ t : Fin grid0.N, _)

/-- The batch and the place in the sequence of a row. -/
def bat (n : Nat) (h : n < 32768) : Fin 16 := ⟨n / 2048, by omega⟩
def pos (n : Nat) : Fin 2048 := ⟨n % 2048, by omega⟩

/-- The block's input windows. -/
def in0 : Vec Ideal S256x1024 .f32 := iblk m c 0 t
def in1 : Vec Ideal S256x512 .f32 := iblk m c 1 t
def in2 : Vec Ideal S8x512 .f32 := iblk m c 2 t
def in3 : Vec Ideal S8x512 .f32 := iblk m c 3 t
def in4 : Vec Ideal S256x512 .bf16 := iblk m c 4 t
def in5 : Vec Ideal S1x1024 .f32 := iblk m c 5 t
def in6 : Vec Ideal S1024x2048 .bf16 := iblk m c 6 t
def in7 : Vec Ideal S1x2048 .f32 := iblk m c 7 t
def in8 : Vec Ideal S4x128x128 .bf16 := iblk m c 8 t
def in9 : Vec Ideal S1x512 .f32 := iblk m c 9 t
def in10 : Vec Ideal S2x512x1024 .bf16 := iblk m c 10 t
def in11 : Vec Ideal S1024x1024 .bf16 := iblk m c 11 t
def in12 : Vec Ideal S1x1024 .f32 := iblk m c 12 t

theorem in0_at (r : Fin 256) (k : Fin 1024) : in0 m c t (ix2 r k)
    = (m ((c : Thread nD τ).loc main_arg0)) (ix3 (bat ((block t).val * 256 + r.val) (by omega)) (pos ((block t).val * 256 + r.val)) k) := by
  have e := (idx_at t).1
  unfold in0 iblk
  blk_simp [e]
  entry_read
  have hy : ((View.whole main_v0).slice (win0_0.rect t)).emb (ix2 r k) = ix2 ⟨(block t).val * 256 + r.val, by omega⟩ k := by blk_ext [e]
  rw [hy]
  pointwise
  rfl

theorem in1_at (r : Fin 256) (k : Fin 512) : in1 m c t (ix2 r k)
    = (m ((c : Thread nD τ).loc main_arg1)) (ix3 (bat ((block t).val * 256 + r.val) (by omega)) (pos ((block t).val * 256 + r.val)) k) := by
  have e := (idx_at t).2.1
  unfold in1 iblk
  blk_simp [e]
  entry_read
  have hy : ((View.whole main_v1).slice (win0_1.rect t)).emb (ix2 r k) = ix2 ⟨(block t).val * 256 + r.val, by omega⟩ k := by blk_ext [e]
  rw [hy]
  pointwise
  rfl

theorem in2_at (r : Fin 8) (k : Fin 512) : in2 m c t (ix2 r k)
    = (m ((c : Thread nD τ).loc main_arg1)) (ix3 (bat (((block t).val * 32 - 1) * 8 + r.val) (by omega)) (pos (((block t).val * 32 - 1) * 8 + r.val)) k) := by
  have e := (idx_at t).2.2.1
  unfold in2 iblk
  blk_simp [e]
  entry_read
  have hy : ((View.whole main_v1).slice (win0_2.rect t)).emb (ix2 r k) = ix2 ⟨((block t).val * 32 - 1) * 8 + r.val, by omega⟩ k := by blk_ext [e]
  rw [hy]
  pointwise
  rfl

theorem in3_at (r : Fin 8) (k : Fin 512) : in3 m c t (ix2 r k)
    = (m ((c : Thread nD τ).loc main_arg1)) (ix3 (bat (min ((block t).val * 32 + 32) 4095 * 8 + r.val) (by omega)) (pos (min ((block t).val * 32 + 32) 4095 * 8 + r.val)) k) := by
  have e := (idx_at t).2.2.2.1
  unfold in3 iblk
  blk_simp [e]
  entry_read
  have hy : ((View.whole main_v1).slice (win0_3.rect t)).emb (ix2 r k) = ix2 ⟨min ((block t).val * 32 + 32) 4095 * 8 + r.val, by omega⟩ k := by blk_ext [e]
  rw [hy]
  pointwise
  rfl

theorem in4_at (r : Fin 256) (k : Fin 512) : in4 m c t (ix2 r k)
    = (m ((c : Thread nD τ).loc main_arg2)) (ix3 (bat ((block t).val * 256 + r.val) (by omega)) (pos ((block t).val * 256 + r.val)) k) := by
  have e := (idx_at t).2.2.2.2.1
  unfold in4 iblk
  blk_simp [e]
  entry_read
  have hy : ((View.whole main_v2).slice (win0_4.rect t)).emb (ix2 r k) = ix2 ⟨(block t).val * 256 + r.val, by omega⟩ k := by blk_ext [e]
  rw [hy]
  pointwise
  rfl

theorem in5_at (k : Fin 1024) : in5 m c t (ix2 0 k) = (m ((c : Thread nD τ).loc main_arg3)) (ix2 0 k) := by
  have e := (idx_at t).2.2.2.2.2.1
  unfold in5 iblk
  blk_simp [e]
  entry_read
  have hy : ((View.whole main_v4).slice (win0_5.rect t)).emb (ix2 0 k) = ix2 0 k := by blk_ext [e]
  rw [hy]
  pointwise

theorem in6_at (r : Fin 1024) (k : Fin 2048) : in6 m c t (ix2 r k) = (m ((c : Thread nD τ).loc main_arg4)) (ix3 0 r k) := by
  have e := (idx_at t).2.2.2.2.2.2.1
  unfold in6 iblk
  blk_simp [e]
  entry_read
  have hy : ((View.whole main_v6).slice (win0_6.rect t)).emb (ix2 r k) = ix2 r k := by blk_ext [e]
  rw [hy]
  pointwise

theorem in7_at (k : Fin 2048) : in7 m c t (ix2 0 k) = (m ((c : Thread nD τ).loc main_arg5)) (ix2 0 k) := by
  have e := (idx_at t).2.2.2.2.2.2.2.1
  unfold in7 iblk
  blk_simp [e]
  entry_read
  have hy : ((View.whole main_v8).slice (win0_7.rect t)).emb (ix2 0 k) = ix2 0 k := by blk_ext [e]
  rw [hy]
  pointwise

theorem in8_at (b : Fin 4) (r : Fin 128) (k : Fin 128) : in8 m c t (ix3 b r k) = (m ((c : Thread nD τ).loc main_arg6)) (ix4 0 b r k) := by
  have e := (idx_at t).2.2.2.2.2.2.2.2.1
  unfold in8 iblk
  blk_simp [e]
  entry_read
  have hy : ((View.whole main_v10).slice (win0_8.rect t)).emb (ix3 b r k) = ix3 b r k := by blk_ext [e]
  rw [hy]
  pointwise

theorem in9_at (k : Fin 512) : in9 m c t (ix2 0 k) = (m ((c : Thread nD τ).loc main_arg7)) (ix2 0 k) := by
  have e := (idx_at t).2.2.2.2.2.2.2.2.2.1
  unfold in9 iblk
  blk_simp [e]
  entry_read
  have hy : ((View.whole main_v12).slice (win0_9.rect t)).emb (ix2 0 k) = ix2 0 k := by blk_ext [e]
  rw [hy]
  pointwise

theorem in10_at (b : Fin 2) (r : Fin 512) (k : Fin 1024) : in10 m c t (ix3 b r k) = (m ((c : Thread nD τ).loc main_arg8)) (ix4 0 b r k) := by
  have e := (idx_at t).2.2.2.2.2.2.2.2.2.2.1
  unfold in10 iblk
  blk_simp [e]
  entry_read
  have hy : ((View.whole main_v14).slice (win0_10.rect t)).emb (ix3 b r k) = ix3 b r k := by blk_ext [e]
  rw [hy]
  pointwise

theorem in11_at (r : Fin 1024) (k : Fin 1024) : in11 m c t (ix2 r k) = (m ((c : Thread nD τ).loc main_arg9)) (ix3 0 r k) := by
  have e := (idx_at t).2.2.2.2.2.2.2.2.2.2.2.1
  unfold in11 iblk
  blk_simp [e]
  entry_read
  have hy : ((View.whole main_v16).slice (win0_11.rect t)).emb (ix2 r k) = ix2 r k := by blk_ext [e]
  rw [hy]
  pointwise

theorem in12_at (k : Fin 1024) : in12 m c t (ix2 0 k) = (m ((c : Thread nD τ).loc main_arg10)) (ix2 0 k) := by
  have e := (idx_at t).2.2.2.2.2.2.2.2.2.2.2.2.1
  unfold in12 iblk
  blk_simp [e]
  entry_read
  have hy : ((View.whole main_v18).slice (win0_12.rect t)).emb (ix2 0 k) = ix2 0 k := by blk_ext [e]
  rw [hy]
  pointwise

/-- The rows around a block are the sequence's, with zeros outside it. -/
theorem rowsAround_eq (j : Fin 512) (p : Nat) (hp : p < 272) :
    rowsAround (block t) (in1 m c t) (in2 m c t) (in3 m c t) j p
      = padSeq (m ((c : Thread nD τ).loc main_arg1)) ⟨(block t).val / 8, by omega⟩ j ((block t).val % 8 * 256 + p) := by
  have hn := (block t).isLt
  have at_row : ∀ (row : Nat) (h : row < 32768) (q : Nat), row + 8 = (block t).val / 8 * 2048 + q → 8 ≤ q → q - 8 < 2048 →
      (m ((c : Thread nD τ).loc main_arg1)) (ix3 (bat row h) (pos row) j)
        = padSeq (m ((c : Thread nD τ).loc main_arg1)) ⟨(block t).val / 8, by omega⟩ j q := by
    intro row h q e a b
    unfold padSeq
    rw [dif_pos ⟨a, b⟩]
    have e1 : bat row h = ⟨(block t).val / 8, by omega⟩ := Fin.ext (by show row / 2048 = (block t).val / 8; omega)
    have e2 : pos row = ⟨q - 8, b⟩ := Fin.ext (by show row % 2048 = q - 8; omega)
    rw [e1, e2]
  have outside : ∀ q : Nat, ¬ (8 ≤ q ∧ q - 8 < 2048) →
      0 = padSeq (m ((c : Thread nD τ).loc main_arg1)) ⟨(block t).val / 8, by omega⟩ j q := by
    intro q h
    unfold padSeq
    rw [dif_neg h]
  unfold rowsAround
  split
  · split
    · exact outside _ (by omega)
    · rw [in2_at]
      exact at_row _ _ _ (by show _ * 8 + p + 8 = _; omega) (by omega) (by omega)
  · split
    · rw [in1_at]
      exact at_row _ _ _ (by show _ * 256 + (p - 8) + 8 = _; omega) (by omega) (by omega)
    · rw [dif_pos (by omega)]
      split
      · exact outside _ (by omega)
      · rw [in3_at]
        exact at_row _ _ _ (by show _ * 8 + (p - 8 - 256) + 8 = _; omega) (by omega) (by omega)

/-- The layer on a block's row is the layer on the argument arrays' row. -/
theorem row_eq (r : Fin 256) : blockRow (block t) (in0 m c t) (in1 m c t) (in2 m c t) (in3 m c t) (in4 m c t) (in5 m c t) (in6 m c t)
      (in7 m c t) (in8 m c t) (in9 m c t) (in10 m c t) (in11 m c t) r
    = mixRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (bat ((block t).val * 256 + r.val) (by omega)) (pos ((block t).val * 256 + r.val)) := by
  have hm : ∀ (g : Fin 4) (l : Fin 128), mixed (rowsAround (block t) (in1 m c t) (in2 m c t) (in3 m c t) (glane g l)) (half g)
        ((block t).val % 8 * 256 + r.val) (8 + r.val)
      = mixed (padSeq (m ((c : Thread nD τ).loc main_arg1)) (bat ((block t).val * 256 + r.val) (by omega)) (glane g l)) (half g)
        ((block t).val % 8 * 256 + r.val) ((block t).val % 8 * 256 + r.val + 8) := by
    intro g l
    have hb : bat ((block t).val * 256 + r.val) (by omega) = ⟨(block t).val / 8, by omega⟩ := Fin.ext (by show ((block t).val * 256 + r.val) / 2048 = (block t).val / 8; omega)
    have hg : half g ≤ 8 := by unfold half; fin_cases g <;> simp
    rw [hb]
    have hr := r.isLt
    unfold mixed total
    congr 1
    · congr 1
      refine Finset.sum_congr rfl fun o ho => ?_
      have ho := Finset.mem_range.mp ho
      rw [rowsAround_eq m c t _ _ (by omega)]
      congr 1
      omega
    · rw [rowsAround_eq m c t _ _ (by omega)]
      congr 1
      omega
  have hp : (block t).val % 8 * 256 + r.val = (pos ((block t).val * 256 + r.val)).val := by
    show _ = _ % 2048
    have hr := r.isLt
    omega
  unfold blockRow mixRow
  simp only [in0_at, in4_at, in5_at, in6_at, in7_at, in8_at, in9_at, in10_at, in11_at, hm]
  rw [hp]

end Cert.Mix
-- ==== Proof.MixArray.lean ====
/- The mixing kernel's output arrays after the run, element by element. -/
module

public import proofs.«01_k».proof.Proof.MixIn

@[expose] public section

set_option maxRecDepth 16384

noncomputable section

namespace Cert.Mix

open Idealize.ShloMosaic Cert.Kernel2Ideal Cert.Kernel2Ideal.Gen Idealize.ShloMosaic.TcCoe Idealize.SL.Sem

variable (m : (ℓ : Loc nD τ sig) → Buf (Elt Ideal) ℓ) (c : Dev nD) (t : Fin cfg0.N)

/-- What a point leaves in each output window. -/
def left13 : Vec Ideal S256x1024 .f32 := out0_13 (grid0.coords t) (in0 m c t) (in1 m c t) (in2 m c t) (in3 m c t) (in4 m c t) (in5 m c t) (in6 m c t) (in7 m c t) (in8 m c t) (in9 m c t) (in10 m c t) (in11 m c t) (in12 m c t)
theorem left13_eq : (dats m 0 c).after 13 t = left13 m c t := after0_13 m c t
theorem left13_at (r : Fin 256) (j : Fin 1024) : left13 m c t (ix2 r j)
    = mixRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (bat ((block t).val * 256 + r.val) (by omega)) (pos ((block t).val * 256 + r.val)) j := by
  unfold left13
  rw [out13_at (block t) _ _ _ _ _ _ _ _ _ _ _ _ _ _ rfl, row_eq]

def left14 : Vec Ideal S256x1024 .bf16 := out0_14 (grid0.coords t) (in0 m c t) (in1 m c t) (in2 m c t) (in3 m c t) (in4 m c t) (in5 m c t) (in6 m c t) (in7 m c t) (in8 m c t) (in9 m c t) (in10 m c t) (in11 m c t) (in12 m c t)
theorem left14_eq : (dats m 0 c).after 14 t = left14 m c t := after0_14 m c t
theorem left14_at (r : Fin 256) (j : Fin 1024) : left14 m c t (ix2 r j)
    = norm (mixRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (bat ((block t).val * 256 + r.val) (by omega)) (pos ((block t).val * 256 + r.val)))
        (fun k => (m ((c : Thread nD τ).loc main_arg10)) (ix2 0 k)) j := by
  unfold left14
  rw [out14_at (block t) _ _ _ _ _ _ _ _ _ _ _ _ _ _ rfl, row_eq]
  simp only [in12_at]

def left15 : Vec Ideal S256x8x128 .f32 := out0_15 (grid0.coords t) (in0 m c t) (in1 m c t) (in2 m c t) (in3 m c t) (in4 m c t) (in5 m c t) (in6 m c t) (in7 m c t) (in8 m c t) (in9 m c t) (in10 m c t) (in11 m c t) (in12 m c t)
theorem left15_eq : (dats m 0 c).after 15 t = left15 m c t := after0_15 m c t
theorem left15_at (r : Fin 256) (s : Fin 8) (l : Fin 128) : left15 m c t (ix3 r s l)
    = norm (mixRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (bat ((block t).val * 256 + r.val) (by omega)) (pos ((block t).val * 256 + r.val)))
        (fun k => (m ((c : Thread nD τ).loc main_arg10)) (ix2 0 k)) ⟨s.val * 128 + l.val, by omega⟩ := by
  unfold left15
  rw [out15_at (block t) _ _ _ _ _ _ _ _ _ _ _ _ _ _ rfl, row_eq]
  simp only [in12_at]

/-- The three output arrays. -/
def arr0 (x : Vec Ideal S16x2048x1024 .f32) (u : Vec Ideal S16x2048x512 .f32) (oa : Vec Ideal S16x2048x512 .bf16) (g1 : Vec Ideal S1x1024 .f32)
    (wg : Vec Ideal S1x1024x2048 .f32) (bg : Vec Ideal S1x2048 .f32) (pw : Vec Ideal S1x4x128x128 .f32) (ps : Vec Ideal S1x512 .f32)
    (wb : Vec Ideal S1x2x512x1024 .f32) (wo : Vec Ideal S1x1024x1024 .f32) : Vec Ideal S32768x1024 .f32 :=
  fun i => mixRow x u oa g1 wg bg pw ps wb wo (bat (i 0).val (i 0).isLt) (pos (i 0).val) (i 1)
def arr1 (x : Vec Ideal S16x2048x1024 .f32) (u : Vec Ideal S16x2048x512 .f32) (oa : Vec Ideal S16x2048x512 .bf16) (g1 : Vec Ideal S1x1024 .f32)
    (wg : Vec Ideal S1x1024x2048 .f32) (bg : Vec Ideal S1x2048 .f32) (pw : Vec Ideal S1x4x128x128 .f32) (ps : Vec Ideal S1x512 .f32)
    (wb : Vec Ideal S1x2x512x1024 .f32) (wo : Vec Ideal S1x1024x1024 .f32) (g2 : Vec Ideal S1x1024 .f32) : Vec Ideal S32768x1024 .bf16 :=
  fun i => norm (mixRow x u oa g1 wg bg pw ps wb wo (bat (i 0).val (i 0).isLt) (pos (i 0).val)) (fun k => g2 (ix2 0 k)) (i 1)
def arr2 (x : Vec Ideal S16x2048x1024 .f32) (u : Vec Ideal S16x2048x512 .f32) (oa : Vec Ideal S16x2048x512 .bf16) (g1 : Vec Ideal S1x1024 .f32)
    (wg : Vec Ideal S1x1024x2048 .f32) (bg : Vec Ideal S1x2048 .f32) (pw : Vec Ideal S1x4x128x128 .f32) (ps : Vec Ideal S1x512 .f32)
    (wb : Vec Ideal S1x2x512x1024 .f32) (wo : Vec Ideal S1x1024x1024 .f32) (g2 : Vec Ideal S1x1024 .f32) : Vec Ideal S32768x8x128 .f32 :=
  fun i => norm (mixRow x u oa g1 wg bg pw ps wb wo (bat (i 0).val (i 0).isLt) (pos (i 0).val)) (fun k => g2 (ix2 0 k))
    ⟨(i 1).val * 128 + (i 2).val, by have a : (i 1).val < 8 := (i 1).isLt; have b : (i 2).val < 128 := (i 2).isLt; omega⟩

theorem arr0_at (x u oa g1 wg bg pw ps wb wo) (i : S32768x1024.Idx) (n : Nat) (hn : n < 32768) (j : Fin 1024) (h0 : (i 0).val = n)
    (h1 : (i 1).val = j.val) : mixRow x u oa g1 wg bg pw ps wb wo (bat n hn) (pos n) j = arr0 x u oa g1 wg bg pw ps wb wo i := by
  subst h0
  have e : j = i 1 := Fin.ext h1.symm
  subst e
  rfl

theorem arr1_at (x u oa g1 wg bg pw ps wb wo g2) (i : S32768x1024.Idx) (n : Nat) (hn : n < 32768) (j : Fin 1024) (h0 : (i 0).val = n)
    (h1 : (i 1).val = j.val) : norm (mixRow x u oa g1 wg bg pw ps wb wo (bat n hn) (pos n)) (fun k => g2 (ix2 0 k)) j
      = arr1 x u oa g1 wg bg pw ps wb wo g2 i := by
  subst h0
  have e : j = i 1 := Fin.ext h1.symm
  subst e
  rfl

theorem arr2_at (x u oa g1 wg bg pw ps wb wo g2) (i : S32768x8x128.Idx) (n : Nat) (hn : n < 32768) (s : Fin 8) (l : Fin 128)
    (h0 : (i 0).val = n) (h1 : (i 1).val = s.val) (h2 : (i 2).val = l.val) :
    norm (mixRow x u oa g1 wg bg pw ps wb wo (bat n hn) (pos n)) (fun k => g2 (ix2 0 k)) ⟨s.val * 128 + l.val, by omega⟩
      = arr2 x u oa g1 wg bg pw ps wb wo g2 i := by
  subst h0
  have e : s = i 1 := Fin.ext h1.symm
  subst e
  have e : l = i 2 := Fin.ext h2.symm
  subst e
  rfl

theorem array0_eq : (dats m 0 c).arrAt 13 cfg0.N
    = arr0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 13 _ (by decide +kernel) fun t hf y => ?_
  have e := (idx_at t).2.2.2.2.2.2.2.2.2.2.2.2.2.1
  blk_simp
  rw [left13_eq]
  have y0 : (y 0).val < 256 := (y 0).isLt
  have hy : y = ix2 (⟨(y 0).val, y0⟩ : Fin 256) (y 1) := by
    funext a
    fin_cases a <;> rfl
  have e0 : (((win0_13.blk t).view.emb y) 0 : Nat) = (block t).val * 256 + (y 0).val := by blk_simp [e]
  have e1 : (((win0_13.blk t).view.emb y) 1 : Nat) = (y 1).val := by blk_simp [e]
  refine (congrArg (left13 m c t) hy).trans ((left13_at m c t _ _).trans ?_)
  exact arr0_at _ _ _ _ _ _ _ _ _ _  _ _ _ _  e0 e1

theorem array1_eq : (dats m 0 c).arrAt 14 cfg0.N
    = arr1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 14 _ (by decide +kernel) fun t hf y => ?_
  have e := (idx_at t).2.2.2.2.2.2.2.2.2.2.2.2.2.2.1
  blk_simp
  rw [left14_eq]
  have y0 : (y 0).val < 256 := (y 0).isLt
  have hy : y = ix2 (⟨(y 0).val, y0⟩ : Fin 256) (y 1) := by
    funext a
    fin_cases a <;> rfl
  have e0 : (((win0_14.blk t).view.emb y) 0 : Nat) = (block t).val * 256 + (y 0).val := by blk_simp [e]
  have e1 : (((win0_14.blk t).view.emb y) 1 : Nat) = (y 1).val := by blk_simp [e]
  refine (congrArg (left14 m c t) hy).trans ((left14_at m c t _ _).trans ?_)
  exact arr1_at _ _ _ _ _ _ _ _ _ _ _  _ _ _ _  e0 e1

theorem array2_eq : (dats m 0 c).arrAt 15 cfg0.N
    = arr2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 15 _ (by decide +kernel) fun t hf y => ?_
  have e := (idx_at t).2.2.2.2.2.2.2.2.2.2.2.2.2.2.2
  blk_simp
  rw [left15_eq]
  have y0 : (y 0).val < 256 := (y 0).isLt
  have hy : y = ix3 (⟨(y 0).val, y0⟩ : Fin 256) (y 1) (y 2) := by
    funext a
    fin_cases a <;> rfl
  have e0 : (((win0_15.blk t).view.emb y) 0 : Nat) = (block t).val * 256 + (y 0).val := by blk_simp [e]
  have e1 : (((win0_15.blk t).view.emb y) 1 : Nat) = (y 1).val := by blk_simp [e]
  have e2 : (((win0_15.blk t).view.emb y) 2 : Nat) = (y 2).val := by blk_simp [e]
  refine (congrArg (left15 m c t) hy).trans ((left15_at m c t _ _ _).trans ?_)
  exact arr2_at _ _ _ _ _ _ _ _ _ _ _  _ _ _ _ _  e0 e1 e2

end Cert.Mix
-- ==== Proof.MixEq.lean ====
/- The mixing call: the kernel's results are the reference's. -/
module

public import proofs.«01_k».proof.Defs
public import proofs.«01_k».proof.Proof.MixRef
public import proofs.«01_k».proof.Proof.MixArray
public import proofs.«01_k».proof.Proof.Gen.Kernel2Ideal.Value
public import proofs.«01_k».proof.Proof.Gen.Reference2Ideal.Run

@[expose] public section

set_option maxRecDepth 16384

noncomputable section

namespace Cert.Mix

open Idealize.ShloMosaic Idealize.ShloMosaic.TcCoe Idealize.SL.Sem
open Cert.Reference2Ideal.Read (val_main_v198 val_main_v200 val_main_v201 val_main_v198_eq val_main_v200_eq val_main_v201_eq)

theorem ref0_eq (x u oa g1 wg bg pw ps wb wo) :
    val_main_v198 (F := Ideal) x u oa g1 wg bg pw ps wb wo = arr0 x u oa g1 wg bg pw ps wb wo := by
  funext i
  have hi : i = ix2 (i 0) (i 1) := by
    funext a
    fin_cases a <;> rfl
  rw [hi]
  exact out0_read x u oa g1 wg bg pw ps wb wo (i 0) (i 1)

theorem ref1_eq (x u oa g1 wg bg pw ps wb wo g2) :
    val_main_v200 (F := Ideal) x u oa g1 wg bg pw ps wb wo g2 = arr1 x u oa g1 wg bg pw ps wb wo g2 := by
  funext i
  have hi : i = ix2 (i 0) (i 1) := by
    funext a
    fin_cases a <;> rfl
  rw [hi]
  exact out1_read x u oa g1 wg bg pw ps wb wo g2 (i 0) (i 1)

theorem ref2_eq (x u oa g1 wg bg pw ps wb wo g2) :
    val_main_v201 (F := Ideal) x u oa g1 wg bg pw ps wb wo g2 = arr2 x u oa g1 wg bg pw ps wb wo g2 := by
  funext i
  have hi : i = ix3 (i 0) (i 1) (i 2) := by
    funext a
    fin_cases a <;> rfl
  rw [hi]
  exact out2_read x u oa g1 wg bg pw ps wb wo g2 (i 0) (i 1) (i 2)

theorem arr0_congr {x u oa g1 wg bg pw ps wb wo x' u' oa' g1' wg' bg' pw' ps' wb' wo'} (h0 : x' = x) (h1 : u' = u) (h2 : oa' = oa) (h3 : g1' = g1) (h4 : wg' = wg) (h5 : bg' = bg) (h6 : pw' = pw) (h7 : ps' = ps) (h8 : wb' = wb) (h9 : wo' = wo) :
    arr0 x' u' oa' g1' wg' bg' pw' ps' wb' wo' = arr0 x u oa g1 wg bg pw ps wb wo := by
  subst h0 h1 h2 h3 h4 h5 h6 h7 h8 h9
  rfl

theorem arr1_congr {x u oa g1 wg bg pw ps wb wo g2 x' u' oa' g1' wg' bg' pw' ps' wb' wo' g2'} (h0 : x' = x) (h1 : u' = u) (h2 : oa' = oa) (h3 : g1' = g1) (h4 : wg' = wg) (h5 : bg' = bg) (h6 : pw' = pw) (h7 : ps' = ps) (h8 : wb' = wb) (h9 : wo' = wo) (h10 : g2' = g2) :
    arr1 x' u' oa' g1' wg' bg' pw' ps' wb' wo' g2' = arr1 x u oa g1 wg bg pw ps wb wo g2 := by
  subst h0 h1 h2 h3 h4 h5 h6 h7 h8 h9 h10
  rfl

theorem arr2_congr {x u oa g1 wg bg pw ps wb wo g2 x' u' oa' g1' wg' bg' pw' ps' wb' wo' g2'} (h0 : x' = x) (h1 : u' = u) (h2 : oa' = oa) (h3 : g1' = g1) (h4 : wg' = wg) (h5 : bg' = bg) (h6 : pw' = pw) (h7 : ps' = ps) (h8 : wb' = wb) (h9 : wo' = wo) (h10 : g2' = g2) :
    arr2 x' u' oa' g1' wg' bg' pw' ps' wb' wo' g2' = arr2 x u oa g1 wg bg pw ps wb wo g2 := by
  subst h0 h1 h2 h3 h4 h5 h6 h7 h8 h9 h10
  rfl

/-- From memories that agree on the arguments, both programs end with the same results. -/
theorem algebraic : Cert.algebraic_Kernel2Ideal_Reference2Ideal := by
  intro m g m' g' _ hag
  refine ⟨fun c => arr0 (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)) (m ((c.tc : Thread _ _).loc Cert.Kernel2Ideal.main_arg5)) (m ((c.tc : Thread _ _).loc Cert.Kernel2Ideal.main_arg6)) (m ((c.tc : Thread _ _).loc Cert.Kernel2Ideal.main_arg7)) (m ((c.tc : Thread _ _).loc Cert.Kernel2Ideal.main_arg8)) (m ((c.tc : Thread _ _).loc Cert.Kernel2Ideal.main_arg9)),
    fun c => arr1 (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)) (m ((c.tc : Thread _ _).loc Cert.Kernel2Ideal.main_arg5)) (m ((c.tc : Thread _ _).loc Cert.Kernel2Ideal.main_arg6)) (m ((c.tc : Thread _ _).loc Cert.Kernel2Ideal.main_arg7)) (m ((c.tc : Thread _ _).loc Cert.Kernel2Ideal.main_arg8)) (m ((c.tc : Thread _ _).loc Cert.Kernel2Ideal.main_arg9)) (m ((c.tc : Thread _ _).loc Cert.Kernel2Ideal.main_arg10)),
    fun c => arr2 (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)) (m ((c.tc : Thread _ _).loc Cert.Kernel2Ideal.main_arg5)) (m ((c.tc : Thread _ _).loc Cert.Kernel2Ideal.main_arg6)) (m ((c.tc : Thread _ _).loc Cert.Kernel2Ideal.main_arg7)) (m ((c.tc : Thread _ _).loc Cert.Kernel2Ideal.main_arg8)) (m ((c.tc : Thread _ _).loc Cert.Kernel2Ideal.main_arg9)) (m ((c.tc : Thread _ _).loc Cert.Kernel2Ideal.main_arg10)), ?_, ?_⟩
  · refine (θ_run _ _ _).mono (fun r h c => ?_) (Cert.Kernel2Ideal.Value.run_blocks m g)
    obtain ⟨h0, h1, h2, h3⟩ := h c
    exact ⟨h0.trans (array0_eq m c), h1.trans (array1_eq m c), h2.trans (array2_eq m c), h3⟩
  · refine (θ_run _ _ _).mono (fun r h c => ?_) (Cert.Reference2Ideal.Value.run m' g')
    obtain ⟨h0, h1, h2, h3⟩ := h c
    obtain ⟨a0, a1, a2, a3, a4, a5, a6, a7, a8, a9, a10⟩ := hag c
    refine ⟨h0.trans ?_, h1.trans ?_, h2.trans ?_, h3⟩
    · exact (val_main_v198_eq _).trans ((ref0_eq _ _ _ _ _ _ _ _ _ _).trans (arr0_congr a0 a1 a2 a3 a4 a5 a6 a7 a8 a9))
    · exact (val_main_v200_eq _).trans ((ref1_eq _ _ _ _ _ _ _ _ _ _ _).trans (arr1_congr a0 a1 a2 a3 a4 a5 a6 a7 a8 a9 a10))
    · exact (val_main_v201_eq _).trans ((ref2_eq _ _ _ _ _ _ _ _ _ _ _).trans (arr2_congr a0 a1 a2 a3 a4 a5 a6 a7 a8 a9 a10))

end Cert.Mix
-- ==== Proof.ProjArray.lean ====
/- The projection kernel's output arrays after the run, element by element. -/
module

public import proofs.«01_k».proof.Proof.Gen.Kernel3Ideal.Frame
public import proofs.«01_k».proof.Proof.MixSpec
public import Idealize.ShloMosaic.Lib.Claim
public import Idealize.ShloMosaic.Lib.Pipeline.ValueKit

@[expose] public section

set_option maxRecDepth 16384

noncomputable section

namespace Cert.Proj

open Idealize.ShloMosaic Cert.Kernel3Ideal Cert.Kernel3Ideal.Gen Idealize.ShloMosaic.TcCoe Idealize.SL.Sem
open Cert.Mix (norm)

theorem zeros : (![0, 0] : Fin 2 → Nat) = fun _ => 0 := by
  funext i
  fin_cases i <;> rfl

/-- A lane of the projection of a row, normalised. -/
def lane (x g : Fin 1024 → EReal) (w : Fin 1024 → Fin 1280 → EReal) (j : Fin 1280) : EReal := ∑ k, norm x g k * w k j

/-- The kernel's product, before it is cut into the four results. -/
theorem pay1_at (x0 : Vec Ideal S512x1024 .f32) (x1 : Vec Ideal S1x1024 .f32) (x2 : Vec Ideal S1024x1280 .bf16) (r : Fin 512) (j : Fin 1280) :
    k0_pay1 x0 x1 x2 (ix2 r j) = lane (fun k => x0 (ix2 r k)) (fun k => x1 (ix2 0 k)) (fun k j => x2 (ix2 k j)) j := by
  pointwise [k0_pay1]
  rfl

variable (m : (ℓ : Loc nD τ sig) → Buf (Elt Ideal) ℓ) (c : Dev nD) (t : Fin cfg0.N)

/-- The block a grid point works on. -/
def block (t : Fin cfg0.N) : Fin 64 := ⟨((grid0.coords t) 0).val, ((grid0.coords t) 0).isLt⟩

/-- The windows' block indices at a grid point. -/
theorem idx_at : ∀ t : Fin cfg0.N,
    win0_0.index t = ![(block t).val, 0]
    ∧ win0_1.index t = ![0, 0]
    ∧ win0_2.index t = ![0, 0]
    ∧ win0_3.index t = ![(block t).val, 0]
    ∧ win0_4.index t = ![(block t).val, 0]
    ∧ win0_5.index t = ![(block t).val, 0]
    ∧ win0_6.index t = ![(block t).val, 0] :=
  (by decide +kernel : ∀ t : Fin grid0.N, _)

/-- The batch and the place in the sequence of a row. -/
def bat (n : Nat) (h : n < 32768) : Fin 16 := ⟨n / 2048, by omega⟩
def pos (n : Nat) : Fin 2048 := ⟨n % 2048, by omega⟩

/-- The block's input windows. -/
def in0 : Vec Ideal S512x1024 .f32 := iblk m c 0 t
def in1 : Vec Ideal S1x1024 .f32 := iblk m c 1 t
def in2 : Vec Ideal S1024x1280 .bf16 := iblk m c 2 t

theorem in0_at (r : Fin 512) (k : Fin 1024) : in0 m c t (ix2 r k)
    = (m ((c : Thread nD τ).loc main_arg0)) (ix3 (bat ((block t).val * 512 + r.val) (by omega)) (pos ((block t).val * 512 + r.val)) k) := by
  have e := (idx_at t).1
  unfold in0 iblk
  blk_simp [e]
  entry_read
  have hy : ((View.whole main_v0).slice (win0_0.rect t)).emb (ix2 r k) = ix2 ⟨(block t).val * 512 + r.val, by omega⟩ k := by blk_ext [e]
  rw [hy]
  pointwise
  rfl

theorem in1_at (k : Fin 1024) : in1 m c t (ix2 0 k) = (m ((c : Thread nD τ).loc main_arg1)) (ix2 0 k) := by
  have e := (idx_at t).2.1
  unfold in1 iblk
  blk_simp [e]
  entry_read
  have hy : ((View.whole main_v2).slice (win0_1.rect t)).emb (ix2 0 k) = ix2 0 k := by blk_ext [e]
  rw [hy]
  pointwise

theorem in2_at (r : Fin 1024) (k : Fin 1280) : in2 m c t (ix2 r k) = (m ((c : Thread nD τ).loc main_arg2)) (ix3 0 r k) := by
  have e := (idx_at t).2.2.1
  unfold in2 iblk
  blk_simp [e]
  entry_read
  have hy : ((View.whole main_v4).slice (win0_2.rect t)).emb (ix2 r k) = ix2 r k := by blk_ext [e]
  rw [hy]
  pointwise

/-- The projection of the row at place `t` of batch `b`. -/
def projAt (x : Vec Ideal S16x2048x1024 .f32) (g : Vec Ideal S1x1024 .f32) (w : Vec Ideal S1x1024x1280 .f32) (b : Fin 16) (t : Fin 2048) (j : Fin 1280) : EReal :=
  lane (fun k => x (ix3 b t k)) (fun k => g (ix2 0 k)) (fun k j => w (ix3 0 k j)) j

/-- What a point leaves in output window 3. -/
def left3 : Vec Ideal S512x512 .bf16 := out0_3 (in0 m c t) (in1 m c t) (in2 m c t)
theorem left3_eq : (dats m 0 c).after 3 t = left3 m c t := after0_3 m c t
theorem left3_at (r : Fin 512) (j : Fin 512) : left3 m c t (ix2 r j)
    = projAt (m ((c : Thread nD τ).loc main_arg0)) (m ((c : Thread nD τ).loc main_arg1)) (m ((c : Thread nD τ).loc main_arg2))
        (bat ((block t).val * 512 + r.val) (by omega)) (pos ((block t).val * 512 + r.val)) ⟨j.val, by omega⟩ := by
  unfold left3 out0_3
  rw [View.canon_unit_zero zeros, View.ld_unit_zero (S := S512x1024) zeros, View.ld_unit_zero (S := S1x1024) zeros, View.ld_unit_zero (S := S1024x1280) zeros]
  pointwise [k0_pay2]
  rw [pay1_at]
  simp only [in0_at, in1_at, in2_at]
  rfl

/-- The array of output window 3. -/
def arr3 (x : Vec Ideal S16x2048x1024 .f32) (g : Vec Ideal S1x1024 .f32) (w : Vec Ideal S1x1024x1280 .f32) : Vec Ideal S32768x512 .bf16 :=
  fun i => projAt x g w (bat (i 0).val (i 0).isLt) (pos (i 0).val) ⟨(i 1).val, by have a : (i 1).val < 512 := (i 1).isLt; omega⟩

theorem arr3_at (x g w) (i : S32768x512.Idx) (n : Nat) (hn : n < 32768) (j : Fin 512) (h0 : (i 0).val = n)
    (h1 : (i 1).val = j.val) : projAt x g w (bat n hn) (pos n) ⟨j.val, by omega⟩ = arr3 x g w i := by
  subst h0
  have e : j = i 1 := Fin.ext h1.symm
  subst e
  rfl

theorem array3_eq : (dats m 0 c).arrAt 3 cfg0.N = arr3 (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := (idx_at t).2.2.2.1
  blk_simp
  rw [left3_eq]
  have y0 : (y 0).val < 512 := (y 0).isLt
  have hy : y = ix2 (⟨(y 0).val, y0⟩ : Fin 512) (y 1) := by
    funext a
    fin_cases a <;> rfl
  have e0 : (((win0_3.blk t).view.emb y) 0 : Nat) = (block t).val * 512 + (y 0).val := by blk_simp [e]
  have e1 : (((win0_3.blk t).view.emb y) 1 : Nat) = (y 1).val := by blk_simp [e]
  refine (congrArg (left3 m c t) hy).trans ((left3_at m c t _ _).trans ?_)
  exact arr3_at _ _ _ _ _ _ _ e0 e1

/-- What a point leaves in output window 4. -/
def left4 : Vec Ideal S512x128 .bf16 := out0_4 (in0 m c t) (in1 m c t) (in2 m c t)
theorem left4_eq : (dats m 0 c).after 4 t = left4 m c t := after0_4 m c t
theorem left4_at (r : Fin 512) (j : Fin 128) : left4 m c t (ix2 r j)
    = projAt (m ((c : Thread nD τ).loc main_arg0)) (m ((c : Thread nD τ).loc main_arg1)) (m ((c : Thread nD τ).loc main_arg2))
        (bat ((block t).val * 512 + r.val) (by omega)) (pos ((block t).val * 512 + r.val)) ⟨512 + j.val, by omega⟩ := by
  unfold left4 out0_4
  rw [View.canon_unit_zero zeros, View.ld_unit_zero (S := S512x1024) zeros, View.ld_unit_zero (S := S1x1024) zeros, View.ld_unit_zero (S := S1024x1280) zeros]
  pointwise [k0_pay3]
  rw [pay1_at]
  simp only [in0_at, in1_at, in2_at]
  rfl

/-- The array of output window 4. -/
def arr4 (x : Vec Ideal S16x2048x1024 .f32) (g : Vec Ideal S1x1024 .f32) (w : Vec Ideal S1x1024x1280 .f32) : Vec Ideal S32768x128 .bf16 :=
  fun i => projAt x g w (bat (i 0).val (i 0).isLt) (pos (i 0).val) ⟨512 + (i 1).val, by have a : (i 1).val < 128 := (i 1).isLt; omega⟩

theorem arr4_at (x g w) (i : S32768x128.Idx) (n : Nat) (hn : n < 32768) (j : Fin 128) (h0 : (i 0).val = n)
    (h1 : (i 1).val = j.val) : projAt x g w (bat n hn) (pos n) ⟨512 + j.val, by omega⟩ = arr4 x g w i := by
  subst h0
  have e : j = i 1 := Fin.ext h1.symm
  subst e
  rfl

theorem array4_eq : (dats m 0 c).arrAt 4 cfg0.N = arr4 (m ((c : Thread nD τ).loc main_arg0)) (m ((c : Thread nD τ).loc main_arg1)) (m ((c : Thread nD τ).loc main_arg2)) := by
  refine (dats m 0 c).arrAt_eq_of_covers 4 _ (by decide +kernel) fun t hf y => ?_
  have e := (idx_at t).2.2.2.2.1
  blk_simp
  rw [left4_eq]
  have y0 : (y 0).val < 512 := (y 0).isLt
  have hy : y = ix2 (⟨(y 0).val, y0⟩ : Fin 512) (y 1) := by
    funext a
    fin_cases a <;> rfl
  have e0 : (((win0_4.blk t).view.emb y) 0 : Nat) = (block t).val * 512 + (y 0).val := by blk_simp [e]
  have e1 : (((win0_4.blk t).view.emb y) 1 : Nat) = (y 1).val := by blk_simp [e]
  refine (congrArg (left4 m c t) hy).trans ((left4_at m c t _ _).trans ?_)
  exact arr4_at _ _ _ _ _ _ _ e0 e1

/-- What a point leaves in output window 5. -/
def left5 : Vec Ideal S512x128 .bf16 := out0_5 (in0 m c t) (in1 m c t) (in2 m c t)
theorem left5_eq : (dats m 0 c).after 5 t = left5 m c t := after0_5 m c t
theorem left5_at (r : Fin 512) (j : Fin 128) : left5 m c t (ix2 r j)
    = projAt (m ((c : Thread nD τ).loc main_arg0)) (m ((c : Thread nD τ).loc main_arg1)) (m ((c : Thread nD τ).loc main_arg2))
        (bat ((block t).val * 512 + r.val) (by omega)) (pos ((block t).val * 512 + r.val)) ⟨640 + j.val, by omega⟩ := by
  unfold left5 out0_5
  rw [View.canon_unit_zero zeros, View.ld_unit_zero (S := S512x1024) zeros, View.ld_unit_zero (S := S1x1024) zeros, View.ld_unit_zero (S := S1024x1280) zeros]
  pointwise [k0_pay4]
  rw [pay1_at]
  simp only [in0_at, in1_at, in2_at]
  rfl

/-- The array of output window 5. -/
def arr5 (x : Vec Ideal S16x2048x1024 .f32) (g : Vec Ideal S1x1024 .f32) (w : Vec Ideal S1x1024x1280 .f32) : Vec Ideal S32768x128 .bf16 :=
  fun i => projAt x g w (bat (i 0).val (i 0).isLt) (pos (i 0).val) ⟨640 + (i 1).val, by have a : (i 1).val < 128 := (i 1).isLt; omega⟩

theorem arr5_at (x g w) (i : S32768x128.Idx) (n : Nat) (hn : n < 32768) (j : Fin 128) (h0 : (i 0).val = n)
    (h1 : (i 1).val = j.val) : projAt x g w (bat n hn) (pos n) ⟨640 + j.val, by omega⟩ = arr5 x g w i := by
  subst h0
  have e : j = i 1 := Fin.ext h1.symm
  subst e
  rfl

theorem array5_eq : (dats m 0 c).arrAt 5 cfg0.N = arr5 (m ((c : Thread nD τ).loc main_arg0)) (m ((c : Thread nD τ).loc main_arg1)) (m ((c : Thread nD τ).loc main_arg2)) := by
  refine (dats m 0 c).arrAt_eq_of_covers 5 _ (by decide +kernel) fun t hf y => ?_
  have e := (idx_at t).2.2.2.2.2.1
  blk_simp
  rw [left5_eq]
  have y0 : (y 0).val < 512 := (y 0).isLt
  have hy : y = ix2 (⟨(y 0).val, y0⟩ : Fin 512) (y 1) := by
    funext a
    fin_cases a <;> rfl
  have e0 : (((win0_5.blk t).view.emb y) 0 : Nat) = (block t).val * 512 + (y 0).val := by blk_simp [e]
  have e1 : (((win0_5.blk t).view.emb y) 1 : Nat) = (y 1).val := by blk_simp [e]
  refine (congrArg (left5 m c t) hy).trans ((left5_at m c t _ _).trans ?_)
  exact arr5_at _ _ _ _ _ _ _ e0 e1

/-- What a point leaves in output window 6. -/
def left6 : Vec Ideal S512x512 .f32 := out0_6 (in0 m c t) (in1 m c t) (in2 m c t)
theorem left6_eq : (dats m 0 c).after 6 t = left6 m c t := after0_6 m c t
theorem left6_at (r : Fin 512) (j : Fin 512) : left6 m c t (ix2 r j)
    = projAt (m ((c : Thread nD τ).loc main_arg0)) (m ((c : Thread nD τ).loc main_arg1)) (m ((c : Thread nD τ).loc main_arg2))
        (bat ((block t).val * 512 + r.val) (by omega)) (pos ((block t).val * 512 + r.val)) ⟨768 + j.val, by omega⟩ := by
  unfold left6 out0_6
  rw [View.canon_unit_zero zeros, View.ld_unit_zero (S := S512x1024) zeros, View.ld_unit_zero (S := S1x1024) zeros, View.ld_unit_zero (S := S1024x1280) zeros]
  pointwise [k0_pay5]
  rw [pay1_at]
  simp only [in0_at, in1_at, in2_at]
  rfl

/-- The array of output window 6. -/
def arr6 (x : Vec Ideal S16x2048x1024 .f32) (g : Vec Ideal S1x1024 .f32) (w : Vec Ideal S1x1024x1280 .f32) : Vec Ideal S32768x512 .f32 :=
  fun i => projAt x g w (bat (i 0).val (i 0).isLt) (pos (i 0).val) ⟨768 + (i 1).val, by have a : (i 1).val < 512 := (i 1).isLt; omega⟩

theorem arr6_at (x g w) (i : S32768x512.Idx) (n : Nat) (hn : n < 32768) (j : Fin 512) (h0 : (i 0).val = n)
    (h1 : (i 1).val = j.val) : projAt x g w (bat n hn) (pos n) ⟨768 + j.val, by omega⟩ = arr6 x g w i := by
  subst h0
  have e : j = i 1 := Fin.ext h1.symm
  subst e
  rfl

theorem array6_eq : (dats m 0 c).arrAt 6 cfg0.N = arr6 (m ((c : Thread nD τ).loc main_arg0)) (m ((c : Thread nD τ).loc main_arg1)) (m ((c : Thread nD τ).loc main_arg2)) := by
  refine (dats m 0 c).arrAt_eq_of_covers 6 _ (by decide +kernel) fun t hf y => ?_
  have e := (idx_at t).2.2.2.2.2.2
  blk_simp
  rw [left6_eq]
  have y0 : (y 0).val < 512 := (y 0).isLt
  have hy : y = ix2 (⟨(y 0).val, y0⟩ : Fin 512) (y 1) := by
    funext a
    fin_cases a <;> rfl
  have e0 : (((win0_6.blk t).view.emb y) 0 : Nat) = (block t).val * 512 + (y 0).val := by blk_simp [e]
  have e1 : (((win0_6.blk t).view.emb y) 1 : Nat) = (y 1).val := by blk_simp [e]
  refine (congrArg (left6 m c t) hy).trans ((left6_at m c t _ _).trans ?_)
  exact arr6_at _ _ _ _ _ _ _ e0 e1

end Cert.Proj
-- ==== Proof.ProjEq.lean ====
/- The projection call: the kernel's four results are the reference's. -/
module

public import proofs.«01_k».proof.Defs
public import proofs.«01_k».proof.Proof.ProjArray
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Proj

open Idealize.ShloMosaic Idealize.ShloMosaic.TcCoe Idealize.SL.Sem
open Cert.Mix (norm)
open Cert.Reference3Ideal (S16x2048x1024 S1x1024 S1x1024x1280)
open Cert.Reference3Ideal.Read

variable (x0 : (⟨S16x2048x1024, .f32⟩ : BufTy).Contents (Elt Ideal)) (x1 : (⟨S1x1024, .f32⟩ : BufTy).Contents (Elt Ideal))
  (x2 : (⟨S1x1024x1280, .f32⟩ : BufTy).Contents (Elt Ideal)) (b : Fin 16) (t : Fin 2048)

/-- The reference's normalised row. -/
theorem norm_read (k : Fin 1024) :
    val_main_v13 (F := Ideal) x0 x1 (ix3 b t k) = norm (fun k => x0 (ix3 b t k)) (fun k => x1 (ix2 0 k)) k := by
  unfold val_main_v13
  pointwise [val_main_v10, val_main_v9, val_main_v8, val_main_v7, val_main_v6, val_main_v5, val_main_v4, val_main_v3, val_main_v2,
    val_main_v1, val_main_v12, val_main_v11, val_main_v0, val_main_cst, val_main_cst_0, val_main_cst_1]
  rfl

/-- The reference's product, before it is cut. -/
theorem proj_read (j : Fin 1280) : val_main_v15 (F := Ideal) x0 x1 x2 (ix3 b t j) = projAt x0 x1 x2 b t j := by
  unfold val_main_v15
  pointwise [val_main_v14]
  simp only [norm_read]
  rfl

theorem ref3_eq : val_main_v21 (F := Ideal) x0 x1 x2 = arr3 x0 x1 x2 := by
  funext i
  have hi : i = ix2 (i 0) (i 1) := by
    funext a
    fin_cases a <;> rfl
  rw [hi]
  generalize i 0 = n
  generalize i 1 = j
  unfold val_main_v21
  pointwise [val_main_v20, val_main_v16]
  rw [proj_read]
  rfl

theorem arr3_congr {x g w x' g' w'} (h0 : x' = x) (h1 : g' = g) (h2 : w' = w) : arr3 x' g' w' = arr3 x g w := by
  subst h0 h1 h2
  rfl

theorem ref4_eq : val_main_v23 (F := Ideal) x0 x1 x2 = arr4 x0 x1 x2 := by
  funext i
  have hi : i = ix2 (i 0) (i 1) := by
    funext a
    fin_cases a <;> rfl
  rw [hi]
  generalize i 0 = n
  generalize i 1 = j
  unfold val_main_v23
  pointwise [val_main_v22, val_main_v17]
  rw [proj_read]
  rfl

theorem arr4_congr {x g w x' g' w'} (h0 : x' = x) (h1 : g' = g) (h2 : w' = w) : arr4 x' g' w' = arr4 x g w := by
  subst h0 h1 h2
  rfl

theorem ref5_eq : val_main_v25 (F := Ideal) x0 x1 x2 = arr5 x0 x1 x2 := by
  funext i
  have hi : i = ix2 (i 0) (i 1) := by
    funext a
    fin_cases a <;> rfl
  rw [hi]
  generalize i 0 = n
  generalize i 1 = j
  unfold val_main_v25
  pointwise [val_main_v24, val_main_v18]
  rw [proj_read]
  rfl

theorem arr5_congr {x g w x' g' w'} (h0 : x' = x) (h1 : g' = g) (h2 : w' = w) : arr5 x' g' w' = arr5 x g w := by
  subst h0 h1 h2
  rfl

theorem ref6_eq : val_main_v26 (F := Ideal) x0 x1 x2 = arr6 x0 x1 x2 := by
  funext i
  have hi : i = ix2 (i 0) (i 1) := by
    funext a
    fin_cases a <;> rfl
  rw [hi]
  generalize i 0 = n
  generalize i 1 = j
  unfold val_main_v26
  pointwise [val_main_v19]
  rw [proj_read]
  rfl

theorem arr6_congr {x g w x' g' w'} (h0 : x' = x) (h1 : g' = g) (h2 : w' = w) : arr6 x' g' w' = arr6 x g w := by
  subst h0 h1 h2
  rfl

/-- From memories that agree on the arguments, both programs end with the same results. -/
theorem algebraic : Cert.algebraic_Kernel3Ideal_Reference3Ideal := by
  intro m g m' g' _ hag
  refine ⟨fun c => arr3 (m ((c.tc : Thread _ _).loc Cert.Kernel3Ideal.main_arg0)) (m ((c.tc : Thread _ _).loc Cert.Kernel3Ideal.main_arg1)) (m ((c.tc : Thread _ _).loc Cert.Kernel3Ideal.main_arg2)),
    fun c => arr4 (m ((c.tc : Thread _ _).loc Cert.Kernel3Ideal.main_arg0)) (m ((c.tc : Thread _ _).loc Cert.Kernel3Ideal.main_arg1)) (m ((c.tc : Thread _ _).loc Cert.Kernel3Ideal.main_arg2)),
    fun c => arr5 (m ((c.tc : Thread _ _).loc Cert.Kernel3Ideal.main_arg0)) (m ((c.tc : Thread _ _).loc Cert.Kernel3Ideal.main_arg1)) (m ((c.tc : Thread _ _).loc Cert.Kernel3Ideal.main_arg2)),
    fun c => arr6 (m ((c.tc : Thread _ _).loc Cert.Kernel3Ideal.main_arg0)) (m ((c.tc : Thread _ _).loc Cert.Kernel3Ideal.main_arg1)) (m ((c.tc : Thread _ _).loc Cert.Kernel3Ideal.main_arg2)), ?_, ?_⟩
  · refine (θ_run _ _ _).mono (fun r h c => ?_) (Cert.Kernel3Ideal.Value.run_blocks m g)
    obtain ⟨h0, h1, h2, h3, h4⟩ := h c
    exact ⟨h0.trans (array3_eq m c), h1.trans (array4_eq m c), h2.trans (array5_eq m c), h3.trans (array6_eq m c), h4⟩
  · refine (θ_run _ _ _).mono (fun r h c => ?_) (Cert.Reference3Ideal.Value.run m' g')
    obtain ⟨h0, h1, h2, h3, h4⟩ := h c
    obtain ⟨a0, a1, a2⟩ := hag c
    exact ⟨h0.trans ((val_main_v21_eq _ _ _).trans ((ref3_eq _ _ _).trans (arr3_congr a0 a1 a2))),
      h1.trans ((val_main_v23_eq _ _ _).trans ((ref4_eq _ _ _).trans (arr4_congr a0 a1 a2))),
      h2.trans ((val_main_v25_eq _ _ _).trans ((ref5_eq _ _ _).trans (arr5_congr a0 a1 a2))),
      h3.trans ((val_main_v26_eq _ _ _).trans ((ref6_eq _ _ _).trans (arr6_congr a0 a1 a2))), h4⟩

end Cert.Proj
-- ==== Proof.RouteLoop.lean ====
/- The routing's loop over the heads: what it holds from one trip to the next. -/
module

public import proofs.«01_k».proof.Proof.Gen.Kernel4Ideal.Skeleton
public import Idealize.ShloMosaic.Lib.Exec
public import Idealize.ShloMosaic.Lib.Tactic
public import Idealize.ShloMosaic.Lib.Pipeline.Kit

@[expose] public section

set_option maxRecDepth 16384

noncomputable section

namespace Cert.Kernel4Ideal.Route

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop holds before and after each trip: the keys and the queries' product, which it only reads, at their
    contents, and the two scratch buffers that it fills with experts and gates at some contents. -/
abbrev Held (c : Dev nD) (arg3 : Memref sig .tc .vmem S8x2x128x128 .bf16) (arg6 : Memref sig .tc .vmem S512x2048 .f32)
    (arg7 arg8 : Memref sig .tc .vmem S128x512 .f32) (keys : BufTy.Contents (Elt F) arg3.view.ty)
    (qp : BufTy.Contents (Elt F) arg6.view.ty) : sProp 𝕄 :=
  iprop((arg3.view.loc (c : Thread nD τ) ↦[arg3.view.set]{fullShare} keys)
    ∗ (arg6.view.loc (c : Thread nD τ) ↦[arg6.view.set]{fullShare} qp)
    ∗ (∃ e, (arg7.view.loc (c : Thread nD τ) ↦[arg7.view.set]{fullShare} e))
    ∗ (∃ g, (arg8.view.loc (c : Thread nD τ) ↦[arg8.view.set]{fullShare} g)))

/-- One trip keeps what the loop holds. -/
theorem head_trip (𝒱 : Variants) (c : Dev nD) (bd : Option 𝒱.V) (E : Set ℕ) (i : grid0.Coords) (arg1 : Memref sig .tc .vmem S512x1024 .bf16) (harg1 : arg1.IsWhole)
    (arg2 : Memref sig .tc .vmem S1024x2048 .bf16) (harg2 : arg2.IsWhole) (arg3 : Memref sig .tc .vmem S8x2x128x128 .bf16) (harg3 : arg3.IsWhole)
    (arg4 : Memref sig .tc .vmem S512x128 .i32) (harg4 : arg4.IsWhole) (arg5 : Memref sig .tc .vmem S512x128 .f32) (harg5 : arg5.IsWhole)
    (arg6 : Memref sig .tc .vmem S512x2048 .f32) (harg6 : arg6.IsWhole) (arg7 : Memref sig .tc .vmem S128x512 .f32) (harg7 : arg7.IsWhole)
    (arg8 : Memref sig .tc .vmem S128x512 .f32) (harg8 : arg8.IsWhole)
    (keys : BufTy.Contents (Elt F) arg3.view.ty) (qp : BufTy.Contents (Elt F) arg6.view.ty) (k : Fin k0_t1_loop.trips) :
    Held (F := F) c arg3 arg6 arg7 arg8 keys qp
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 k PUnit.unit)
          (fun _ => Held (F := F) c arg3 arg6 arg7 arg8 keys qp) := by
  have hk : k.val < 8 := Nat.lt_of_lt_of_le k.isLt k0_t1_abs.2.1
  unfold k0_t1_body
  iintro ⟨Hkeys, Hqp, ⟨%e, He⟩, ⟨%g, Hg⟩⟩
  sl_exec
  sl_step
  isplitl [Hkeys]; · iexact Hkeys
  isplitl [Hqp]; · iexact Hqp
  isplitl [He]
  · iexists _; iexact He
  iexists _; iexact Hg

set_option warn.classDefReducibility false in
/-- The loop by that invariant. -/
@[sl_loop] def headLoop (𝒱 : Variants) (c : Dev nD) (bd : Option 𝒱.V) (E : Set ℕ) (i : grid0.Coords) (arg1 : Memref sig .tc .vmem S512x1024 .bf16) (harg1 : arg1.IsWhole)
    (arg2 : Memref sig .tc .vmem S1024x2048 .bf16) (harg2 : arg2.IsWhole) (arg3 : Memref sig .tc .vmem S8x2x128x128 .bf16) (harg3 : arg3.IsWhole)
    (arg4 : Memref sig .tc .vmem S512x128 .i32) (harg4 : arg4.IsWhole) (arg5 : Memref sig .tc .vmem S512x128 .f32) (harg5 : arg5.IsWhole)
    (arg6 : Memref sig .tc .vmem S512x2048 .f32) (harg6 : arg6.IsWhole) (arg7 : Memref sig .tc .vmem S128x512 .f32) (harg7 : arg7.IsWhole)
    (arg8 : Memref sig .tc .vmem S128x512 .f32) (harg8 : arg8.IsWhole)
    (keys : BufTy.Contents (Elt F) arg3.view.ty) (qp : BufTy.Contents (Elt F) arg6.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok ()
      (k0_t1_body (F := F) i arg1 harg1 arg2 harg2 arg3 harg3 arg4 harg4 arg5 harg5 arg6 harg6 arg7 harg7 arg8 harg8) where
  inv := fun _ _ => Held (F := F) c arg3 arg6 arg7 arg8 keys qp
  step k _ := head_trip (F := F) 𝒱 c bd E i arg1 harg1 arg2 harg2 arg3 harg3 arg4 harg4 arg5 harg5 arg6 harg6 arg7 harg7 arg8 harg8 keys qp k

end Cert.Kernel4Ideal.Route

end
-- ==== Proof.RouteBody.lean ====
/- One grid point of the routing: the body from its blocks and its scratch buffers. -/
module

public import proofs.«01_k».proof.Proof.RouteLoop

@[expose] public section

set_option maxRecDepth 16384

noncomputable section

namespace Cert.Kernel4Ideal.Route

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body is given and gives back: its three input blocks at their contents, its two result blocks and its
    three scratch buffers at some contents. -/
abbrev Bufs (c : Dev nD) (arg1 : Memref sig .tc .vmem S512x1024 .bf16) (arg2 : Memref sig .tc .vmem S1024x2048 .bf16)
    (arg3 : Memref sig .tc .vmem S8x2x128x128 .bf16) (arg4 : Memref sig .tc .vmem S512x128 .i32)
    (arg5 : Memref sig .tc .vmem S512x128 .f32) (arg6 : Memref sig .tc .vmem S512x2048 .f32)
    (arg7 arg8 : Memref sig .tc .vmem S128x512 .f32)
    (h2 : Vec F S512x1024 .bf16) (wq : Vec F S1024x2048 .bf16) (keys : Vec F S8x2x128x128 .bf16) : sProp 𝕄 :=
  iprop(owns (c : Thread nD τ) arg1 fullShare h2 ∗ owns (c : Thread nD τ) arg2 fullShare wq ∗ owns (c : Thread nD τ) arg3 fullShare keys
    ∗ (∃ d, owns (c : Thread nD τ) arg4 fullShare d) ∗ (∃ d, owns (c : Thread nD τ) arg5 fullShare d) ∗ (∃ d, owns (c : Thread nD τ) arg6 fullShare d)
    ∗ (∃ d, owns (c : Thread nD τ) arg7 fullShare d) ∗ (∃ d, owns (c : Thread nD τ) arg8 fullShare d))

set_option maxHeartbeats 1000000 in
/-- The body runs from `Bufs` to `Bufs`. -/
theorem body_run (c : Dev nD) (i : grid0.Coords) (arg1 : Memref sig .tc .vmem S512x1024 .bf16) (harg1 : arg1.IsWhole)
    (arg2 : Memref sig .tc .vmem S1024x2048 .bf16) (harg2 : arg2.IsWhole) (arg3 : Memref sig .tc .vmem S8x2x128x128 .bf16) (harg3 : arg3.IsWhole)
    (arg4 : Memref sig .tc .vmem S512x128 .i32) (harg4 : arg4.IsWhole) (arg5 : Memref sig .tc .vmem S512x128 .f32) (harg5 : arg5.IsWhole)
    (arg6 : Memref sig .tc .vmem S512x2048 .f32) (harg6 : arg6.IsWhole) (arg7 : Memref sig .tc .vmem S128x512 .f32) (harg7 : arg7.IsWhole)
    (arg8 : Memref sig .tc .vmem S128x512 .f32) (harg8 : arg8.IsWhole)
    (h2 : Vec F S512x1024 .bf16) (wq : Vec F S1024x2048 .bf16) (keys : Vec F S8x2x128x128 .bf16) (E : Set ℕ) :
    Bufs (F := F) c arg1 arg2 arg3 arg4 arg5 arg6 arg7 arg8 h2 wq keys
      ⊢ wp frame (wpE (defs₀ (F := F)) Variants.none c none) E (cc0_route i arg1 harg1 arg2 harg2 arg3 harg3 arg4 harg4 arg5 harg5 arg6 harg6 arg7 harg7 arg8 harg8)
          (fun _ => Bufs (F := F) c arg1 arg2 arg3 arg4 arg5 arg6 arg7 arg8 h2 wq keys) := by
  simp only [cc0_route_eq_skeleton]
  unfold cc0_route_skel Bufs owns
  iintro ⟨⟨%f1, %e1, H1⟩, ⟨%f2, %e2, H2⟩, ⟨%f3, %e3, H3⟩, ⟨%_, %f4, -, H4⟩, ⟨%_, %f5, -, H5⟩, ⟨%_, %f6, -, H6⟩, ⟨%_, %f7, -, H7⟩, ⟨%_, %f8, -, H8⟩⟩
  sl_exec
  sl_step
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

end Cert.Kernel4Ideal.Route

end
-- ==== Proof.RouteFrame.lean ====
/- The routing's run over its 64 grid points: it terminates, leaves its arguments alone and ends with every counter at zero. -/
module

public import proofs.«01_k».proof.Defs
public import proofs.«01_k».proof.Proof.RouteBody
public import proofs.«01_k».proof.Proof.Gen.Kernel4Ideal.Frame
public import proofs.«01_k».proof.Proof.Gen.Kernel4
public import Idealize.ShloMosaic.Lib.Claim

@[expose] public section

set_option maxRecDepth 16384

noncomputable section

namespace Cert.Kernel4Ideal.Route

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two windows of the results, of which nothing is stated. -/
def results : Fin 5 → Bool := fun w => w.val == 3 || w.val == 4

/-- The proof data: the arrays as the region finds them; after the body each input's buffer holds its block still, and
    the results' buffers hold something unnamed; between points the scratch buffers hold anything. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) ⟨3, h⟩ t
    | ⟨4, h⟩ => Dat.unnamed (cfg := cfg0) ⟨4, h⟩ t
  Φ _ := Pipeline.ΦA spec0 c
  q _ := fullShare
  owed _ := 0

theorem data_A (c : Dev nD) (w : Fin cfg0.W) : (data m 0 c).A w = V m c (Pipeline.arrRef spec0 w) := by
  dsimp only [data]

theorem after_h2 (c : Dev nD) (t : Fin cfg0.N) : (data m 0 c).after 0 t = iblk m c 0 t := by dsimp only [data]
theorem after_wq (c : Dev nD) (t : Fin cfg0.N) : (data m 0 c).after 1 t = iblk m c 1 t := by dsimp only [data]
theorem after_keys (c : Dev nD) (t : Fin cfg0.N) : (data m 0 c).after 2 t = iblk m c 2 t := by dsimp only [data]

/-- Between points the scratch buffers and the generator's register are held at anything. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- At every point, fetched there or not, each input's buffer holds its block. -/
theorem before_h2 (c : Dev nD) (t : Fin cfg0.N) (d) : (data m 0 c).before 0 t d = iblk m c 0 t :=
  before0_0_of m (data m 0 c) (data_A m c 0) (after_h2 m c) t d
theorem before_wq (c : Dev nD) (t : Fin cfg0.N) (d) : (data m 0 c).before 1 t d = iblk m c 1 t :=
  before0_1_of m (data m 0 c) (data_A m c 1) (after_wq m c) t d
theorem before_keys (c : Dev nD) (t : Fin cfg0.N) (d) : (data m 0 c).before 2 t d = iblk m c 2 t :=
  before0_2_of m (data m 0 c) (data_A m c 2) (after_keys m c) t d

/-- What the pipeline hands the body at point `t`, window by window. -/
def given (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare d)
    ∗ (∃ d, owns (c : Thread nD τ) (win0_4.stage (cfg0.slots t 4)) fullShare d))

/-- What it takes back. -/
def returned (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ (∃ d, owns (c : Thread nD τ) (win0_3.stage (cfg0.slots t 3)) fullShare d)
    ∗ (∃ d, owns (c : Thread nD τ) (win0_4.stage (cfg0.slots t 4)) fullShare d))

set_option maxHeartbeats 1000000 in
/-- The body at point `t`. -/
theorem one_point (c : Dev nD) (t : Fin cfg0.N) :
    given m c t ⊢ wp frame (wpE (defs₀ (F := F)) Variants.none c none) Set.univ (bodyAt0 t) (fun _ => returned m c t) := by
  unfold given returned bodyAt0
  simp only [before_h2, before_wq, before_keys, after_h2, after_wq, after_keys]
  rw [show (data m 0 c).owesAt () t.succ = (data m 0 c).owesAt () t.castSucc from rfl,
    show (data m 0 c).Φ t.succ = Pipeline.ΦA spec0 c from rfl,
    show (data m 0 c).Φ t.castSucc = Pipeline.ΦA spec0 c from rfl, scratch_eq]
  iintro ⟨⟨⟨S0, S1, S2⟩, Hr⟩, Ho, ⟨%_, H0⟩, ⟨%_, H1⟩, ⟨%_, H2⟩, H3, H4⟩
  iapply (wp_wand_r Idealize.ShloMosaic.frame (wpE (defs₀ (F := F)) Variants.none (c : Thread nD τ) none) Set.univ)
  isplitl [S0 S1 S2 H0 H1 H2 H3 H4]
  · iapply (body_run c (grid0.coords t) _ _ _ _ _ _ _ _ _ _ _ _ _ _ _ _ (iblk m c 0 t) (iblk m c 1 t) (iblk m c 2 t) Set.univ)
    isplitl [H0]; · iexact H0
    isplitl [H1]; · iexact H1
    isplitl [H2]; · iexact H2
    isplitl [H3]; · iexact H3
    isplitl [H4]; · iexact H4
    isplitl [S0]; · iexact S0
    isplitl [S1]; · iexact S1
    iexact S2
  · iintro %_ ⟨H0, H1, H2, H3, H4, S0, S1, S2⟩
    isplitl [S0 S1 S2 Hr]
    · isplitl [S0 S1 S2]
      · isplitl [S0]; · iexact S0
        isplitl [S1]; · iexact S1
        iexact S2
      iexact Hr
    isplitl [Ho]; · iexact Ho
    isplitl [H0]; · iexact H0
    isplitl [H1]; · iexact H1
    isplitl [H2]; · iexact H2
    isplitl [H3]; · iexact H3
    iexact H4

/-- The body at every grid point does what the pipeline asks of it. -/
theorem every_point (c : Dev nD) :
    BodyObligation (data (F := F) m 0 c) (defs₀ (F := F)) Variants.none () Set.univ results := fun t => by
  rw [bigSep_W0, bigSep_W0,
    show defs₀ (F := F) .tc cfg0.body (cfg0.bodyArgs t (cfg0.slots t)) = bodyAt0 t by unfold defs₀; rw [Defs.onTc_tc]]
  exact triple_restated (one_point m c t) rfl .rfl fun _ => .rfl

-- the launch's implicit arguments are found by unfolding plain definitions
set_option backward.isDefEq.respectTransparency.types false in
/-- The run: every weakly fair execution terminates with the inputs' arrays as they were and every counter at zero. -/
theorem launch : θ_run defs (onTc (τ := τ) (main (F := F))) (s₀ m ρ) (fun r =>
    Pipeline.RDat.FramePost (cfgs 0) (fun c => (data m 0 c).toRForget results) (V m) r ∧ r.2.sem = fun _ => 0) :=
  Pipeline.θ_run_frame_forget (Q' := _) cfgs (data m) (0 : Fin 1) launch0 defs₀ Variants.none results m ρ main
    (hbody := fun c => (every_point m c).loose) (hshare := fun c => (data m 0 c).share_full fun _ => rfl)
    (howed := fun _ _ => rfl) (V := V m) (hmain := hmain m Variants.none) (hA := data_A m) (hΦ := fun _ _ => rfl)

/-- The frame over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(Pipeline.RDat.FramePost.arr_in h.1 c 0 rfl).trans ((data_A m c 0).trans (V_main_arg0 m c)),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩, h.2⟩)
    (launch m ρ)

/-- The ideal reading's frame. -/
theorem quiescent_ideal : Cert.quiescent_Kernel4Ideal := fun m ρ _ => frame m ρ

/-! ## The two programs have one text: the kernel's frame is the same run read at bits -/

theorem same_body : Cert.Kernel4.cc0_route (F := F) = Cert.Kernel4Ideal.cc0_route (F := F) := rfl

theorem same_kernels : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | 0, (t, s) => rfl
  | ⟨_ + 1, h⟩, _ => exact absurd h (Nat.not_lt.2 (Nat.le_add_left _ _))

theorem same_table : Cert.Kernel4.defs (F := F) = Cert.Kernel4Ideal.defs (F := F) :=
  congrArg (Pipeline.defs (Cert.Kernel4Ideal.pcfgs (F := F))) same_kernels

/-- The kernel's frame. -/
theorem quiescent_bits : Cert.quiescent_Kernel4 := fun m ρ _ => by
  rw [same_table]
  exact frame (F := Bits) m ρ

end Cert.Kernel4Ideal.Route

end
-- ==== Proof.lean ====
/- The certificate's claims, put together: the frames come from the generated runs and, for the routing, from RouteFrame; the equalities from the modules of the three calls. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent
public import proofs.«01_k».proof.Proof.AttnEq
public import proofs.«01_k».proof.Proof.MixEq
public import proofs.«01_k».proof.Proof.ProjEq
public import proofs.«01_k».proof.Proof.RouteFrame

@[expose] public section

noncomputable section

namespace Cert.Proof

open Idealize.ShloMosaic Idealize.SL.Sem

/-! ## The references leave their arguments alone and end with every counter at zero -/

theorem attn_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem mix_reference : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

theorem proj_reference : Cert.quiescent_Reference3Ideal := fun m ρ _ =>
  (θ_run Cert.Reference3Ideal.defs _ _).mono
    (fun r h => ⟨fun c => (h c).2.2.2.2, Idealize.ShloMosaic.sem_eq_zero_of_no_sems (by decide) r.2⟩)
    (Cert.Reference3Ideal.Value.run (F := Ideal) m ρ)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Attn.preFacts,
    fun m ρ _ => Cert.Kernel.Gen.frame m ρ,
    fun m ρ _ => Cert.KernelIdeal.Gen.frame m ρ,
    fun m ρ _ => Cert.KernelIdeal.Gen.frame m ρ,
    attn_reference,
    fun m ρ _ => attn_reference m ρ trivial,
    fun m ρ _ => Cert.Kernel2.Gen.frame m ρ,
    fun m ρ _ => Cert.Kernel2Ideal.Gen.frame m ρ,
    mix_reference,
    fun m ρ _ => Cert.Kernel3.Gen.frame m ρ,
    fun m ρ _ => Cert.Kernel3Ideal.Gen.frame m ρ,
    proj_reference,
    Cert.Kernel4Ideal.Route.quiescent_bits,
    Cert.Kernel4Ideal.Route.quiescent_ideal,
    IdealRules.named_const.statement Cert.KernelIdeal.κ "mask" .f32 0xF149F2CA#32 ⊥ rfl,
    Cert.Attn.algebraic,
    trivial,
    Cert.Mix.algebraic,
    trivial,
    Cert.Proj.algebraic,
    trivial⟩

end Cert.Proof

end
